-- ==== Defs.lean ====
def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_finite [hPre_finite : Cert.Pre_finite.Facts] (m : (ℓ : Loc Cert.FoxIdeal.nD Cert.FoxIdeal.τ Cert.FoxIdeal.sig) → Buf (Elt Ideal) ℓ) : Prop :=
  ∀ c : Dev Cert.FoxIdeal.nD,
    (Cert.Pre_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4)) (m ((c.tc : Thread Cert.FoxIdeal.nD Cert.FoxIdeal.τ).loc Cert.FoxIdeal.main_arg5)) (m ((c.tc : Thread Cert.FoxIdeal.nD Cert.FoxIdeal.τ).loc Cert.FoxIdeal.main_arg6))).1 = (fun _ => 1#1)
    ∧ (Cert.Pre_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4)) (m ((c.tc : Thread Cert.FoxIdeal.nD Cert.FoxIdeal.τ).loc Cert.FoxIdeal.main_arg5)) (m ((c.tc : Thread Cert.FoxIdeal.nD Cert.FoxIdeal.τ).loc Cert.FoxIdeal.main_arg6))).2.1 = (fun _ => 1#1)
    ∧ (Cert.Pre_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4)) (m ((c.tc : Thread Cert.FoxIdeal.nD Cert.FoxIdeal.τ).loc Cert.FoxIdeal.main_arg5)) (m ((c.tc : Thread Cert.FoxIdeal.nD Cert.FoxIdeal.τ).loc Cert.FoxIdeal.main_arg6))).2.2 = (fun _ => 1#1)

def Pre_FoxReferenceIdeal (m : (ℓ : Loc Cert.FoxReferenceIdeal.nD Cert.FoxReferenceIdeal.τ Cert.FoxReferenceIdeal.sig) → Buf (Elt Ideal) ℓ) : Prop :=
  True

def Pre_FoxReferenceIdeal_finite [hPre_finite : Cert.Pre_finite.Facts] (m : (ℓ : Loc Cert.FoxReferenceIdeal.nD Cert.FoxReferenceIdeal.τ Cert.FoxReferenceIdeal.sig) → Buf (Elt Ideal) ℓ) : Prop :=
  ∀ c : Dev Cert.FoxReferenceIdeal.nD,
    (Cert.Pre_finite.fn (F := Ideal) (m ((c.tc : Thread Cert.FoxReferenceIdeal.nD Cert.FoxReferenceIdeal.τ).loc Cert.FoxReferenceIdeal.main_arg0)) (m ((c.tc : Thread Cert.FoxReferenceIdeal.nD Cert.FoxReferenceIdeal.τ).loc Cert.FoxReferenceIdeal.main_arg1)) (m ((c.tc : Thread Cert.FoxReferenceIdeal.nD Cert.FoxReferenceIdeal.τ).loc Cert.FoxReferenceIdeal.main_arg2)) (m ((c.tc : Thread Cert.FoxReferenceIdeal.nD Cert.FoxReferenceIdeal.τ).loc Cert.FoxReferenceIdeal.main_arg3)) (m ((c.tc : Thread Cert.FoxReferenceIdeal.nD Cert.FoxReferenceIdeal.τ).loc Cert.FoxReferenceIdeal.main_arg4)) (m ((c.tc : Thread Cert.FoxReferenceIdeal.nD Cert.FoxReferenceIdeal.τ).loc Cert.FoxReferenceIdeal.main_arg5)) (m ((c.tc : Thread Cert.FoxReferenceIdeal.nD Cert.FoxReferenceIdeal.τ).loc Cert.FoxReferenceIdeal.main_arg6))).1 = (fun _ => 1#1)
    ∧ (Cert.Pre_finite.fn (F := Ideal) (m ((c.tc : Thread Cert.FoxReferenceIdeal.nD Cert.FoxReferenceIdeal.τ).loc Cert.FoxReferenceIdeal.main_arg0)) (m ((c.tc : Thread Cert.FoxReferenceIdeal.nD Cert.FoxReferenceIdeal.τ).loc Cert.FoxReferenceIdeal.main_arg1)) (m ((c.tc : Thread Cert.FoxReferenceIdeal.nD Cert.FoxReferenceIdeal.τ).loc Cert.FoxReferenceIdeal.main_arg2)) (m ((c.tc : Thread Cert.FoxReferenceIdeal.nD Cert.FoxReferenceIdeal.τ).loc Cert.FoxReferenceIdeal.main_arg3)) (m ((c.tc : Thread Cert.FoxReferenceIdeal.nD Cert.FoxReferenceIdeal.τ).loc Cert.FoxReferenceIdeal.main_arg4)) (m ((c.tc : Thread Cert.FoxReferenceIdeal.nD Cert.FoxReferenceIdeal.τ).loc Cert.FoxReferenceIdeal.main_arg5)) (m ((c.tc : Thread Cert.FoxReferenceIdeal.nD Cert.FoxReferenceIdeal.τ).loc Cert.FoxReferenceIdeal.main_arg6))).2.1 = (fun _ => 1#1)
    ∧ (Cert.Pre_finite.fn (F := Ideal) (m ((c.tc : Thread Cert.FoxReferenceIdeal.nD Cert.FoxReferenceIdeal.τ).loc Cert.FoxReferenceIdeal.main_arg0)) (m ((c.tc : Thread Cert.FoxReferenceIdeal.nD Cert.FoxReferenceIdeal.τ).loc Cert.FoxReferenceIdeal.main_arg1)) (m ((c.tc : Thread Cert.FoxReferenceIdeal.nD Cert.FoxReferenceIdeal.τ).loc Cert.FoxReferenceIdeal.main_arg2)) (m ((c.tc : Thread Cert.FoxReferenceIdeal.nD Cert.FoxReferenceIdeal.τ).loc Cert.FoxReferenceIdeal.main_arg3)) (m ((c.tc : Thread Cert.FoxReferenceIdeal.nD Cert.FoxReferenceIdeal.τ).loc Cert.FoxReferenceIdeal.main_arg4)) (m ((c.tc : Thread Cert.FoxReferenceIdeal.nD Cert.FoxReferenceIdeal.τ).loc Cert.FoxReferenceIdeal.main_arg5)) (m ((c.tc : Thread Cert.FoxReferenceIdeal.nD Cert.FoxReferenceIdeal.τ).loc Cert.FoxReferenceIdeal.main_arg6))).2.2 = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_NormQ (m : (ℓ : Loc Cert.NormQ.nD Cert.NormQ.τ Cert.NormQ.sig) → Buf (Elt Bits) ℓ) : Prop :=
  True

def Pre_NormQIdeal (m : (ℓ : Loc Cert.NormQIdeal.nD Cert.NormQIdeal.τ Cert.NormQIdeal.sig) → Buf (Elt Ideal) ℓ) : Prop :=
  True

def Pre_NormQReferenceIdeal (m : (ℓ : Loc Cert.NormQReferenceIdeal.nD Cert.NormQReferenceIdeal.τ Cert.NormQReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2)
      ∧ r.2.mem ((c.tc : Thread Cert.Fox.nD Cert.Fox.τ).loc Cert.Fox.main_arg3) = m ((c.tc : Thread Cert.Fox.nD Cert.Fox.τ).loc Cert.Fox.main_arg3)
      ∧ r.2.mem ((c.tc : Thread Cert.Fox.nD Cert.Fox.τ).loc Cert.Fox.main_arg4) = m ((c.tc : Thread Cert.Fox.nD Cert.Fox.τ).loc Cert.Fox.main_arg4)
      ∧ r.2.mem ((c.tc : Thread Cert.Fox.nD Cert.Fox.τ).loc Cert.Fox.main_arg5) = m ((c.tc : Thread Cert.Fox.nD Cert.Fox.τ).loc Cert.Fox.main_arg5)
      ∧ r.2.mem ((c.tc : Thread Cert.Fox.nD Cert.Fox.τ).loc Cert.Fox.main_arg6) = m ((c.tc : Thread Cert.Fox.nD Cert.Fox.τ).loc Cert.Fox.main_arg6))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
      ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4)
      ∧ r.2.mem ((c.tc : Thread Cert.FoxIdeal.nD Cert.FoxIdeal.τ).loc Cert.FoxIdeal.main_arg5) = m ((c.tc : Thread Cert.FoxIdeal.nD Cert.FoxIdeal.τ).loc Cert.FoxIdeal.main_arg5)
      ∧ r.2.mem ((c.tc : Thread Cert.FoxIdeal.nD Cert.FoxIdeal.τ).loc Cert.FoxIdeal.main_arg6) = m ((c.tc : Thread Cert.FoxIdeal.nD Cert.FoxIdeal.τ).loc Cert.FoxIdeal.main_arg6))
      ∧ r.2.sem = fun _ => 0)

def quiescent_FoxIdeal_pre_finite [hFoxIdeal : Cert.FoxIdeal.Facts] [hPre_finite : Cert.Pre_finite.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_finite m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
      ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4)
      ∧ r.2.mem ((c.tc : Thread Cert.FoxIdeal.nD Cert.FoxIdeal.τ).loc Cert.FoxIdeal.main_arg5) = m ((c.tc : Thread Cert.FoxIdeal.nD Cert.FoxIdeal.τ).loc Cert.FoxIdeal.main_arg5)
      ∧ r.2.mem ((c.tc : Thread Cert.FoxIdeal.nD Cert.FoxIdeal.τ).loc Cert.FoxIdeal.main_arg6) = m ((c.tc : Thread Cert.FoxIdeal.nD Cert.FoxIdeal.τ).loc Cert.FoxIdeal.main_arg6))
      ∧ r.2.sem = fun _ => 0)

def quiescent_FoxReferenceIdeal [hFoxReferenceIdeal : Cert.FoxReferenceIdeal.Facts] : Prop :=
  ∀ (m : (ℓ : Loc Cert.FoxReferenceIdeal.nD Cert.FoxReferenceIdeal.τ Cert.FoxReferenceIdeal.sig) → Buf (Elt Ideal) ℓ) (g : Dev Cert.FoxReferenceIdeal.nD → PrngReg), Pre_FoxReferenceIdeal m →
    θ_run (Cert.FoxReferenceIdeal.defs (F := Ideal)) (onTc (τ := Cert.FoxReferenceIdeal.τ) (Cert.FoxReferenceIdeal.main (F := Ideal))) ⟨m, fun _ => 0, g⟩ (fun r => (∀ c : Dev Cert.FoxReferenceIdeal.nD,
      r.2.mem ((c.tc : Thread Cert.FoxReferenceIdeal.nD Cert.FoxReferenceIdeal.τ).loc Cert.FoxReferenceIdeal.main_arg0) = m ((c.tc : Thread Cert.FoxReferenceIdeal.nD Cert.FoxReferenceIdeal.τ).loc Cert.FoxReferenceIdeal.main_arg0)
      ∧ r.2.mem ((c.tc : Thread Cert.FoxReferenceIdeal.nD Cert.FoxReferenceIdeal.τ).loc Cert.FoxReferenceIdeal.main_arg1) = m ((c.tc : Thread Cert.FoxReferenceIdeal.nD Cert.FoxReferenceIdeal.τ).loc Cert.FoxReferenceIdeal.main_arg1)
      ∧ r.2.mem ((c.tc : Thread Cert.FoxReferenceIdeal.nD Cert.FoxReferenceIdeal.τ).loc Cert.FoxReferenceIdeal.main_arg2) = m ((c.tc : Thread Cert.FoxReferenceIdeal.nD Cert.FoxReferenceIdeal.τ).loc Cert.FoxReferenceIdeal.main_arg2)
      ∧ r.2.mem ((c.tc : Thread Cert.FoxReferenceIdeal.nD Cert.FoxReferenceIdeal.τ).loc Cert.FoxReferenceIdeal.main_arg3) = m ((c.tc : Thread Cert.FoxReferenceIdeal.nD Cert.FoxReferenceIdeal.τ).loc Cert.FoxReferenceIdeal.main_arg3)
      ∧ r.2.mem ((c.tc : Thread Cert.FoxReferenceIdeal.nD Cert.FoxReferenceIdeal.τ).loc Cert.FoxReferenceIdeal.main_arg4) = m ((c.tc : Thread Cert.FoxReferenceIdeal.nD Cert.FoxReferenceIdeal.τ).loc Cert.FoxReferenceIdeal.main_arg4)
      ∧ r.2.mem ((c.tc : Thread Cert.FoxReferenceIdeal.nD Cert.FoxReferenceIdeal.τ).loc Cert.FoxReferenceIdeal.main_arg5) = m ((c.tc : Thread Cert.FoxReferenceIdeal.nD Cert.FoxReferenceIdeal.τ).loc Cert.FoxReferenceIdeal.main_arg5)
      ∧ r.2.mem ((c.tc : Thread Cert.FoxReferenceIdeal.nD Cert.FoxReferenceIdeal.τ).loc Cert.FoxReferenceIdeal.main_arg6) = m ((c.tc : Thread Cert.FoxReferenceIdeal.nD Cert.FoxReferenceIdeal.τ).loc Cert.FoxReferenceIdeal.main_arg6))
      ∧ r.2.sem = fun _ => 0)

def quiescent_FoxReferenceIdeal_pre_finite [hFoxReferenceIdeal : Cert.FoxReferenceIdeal.Facts] [hPre_finite : Cert.Pre_finite.Facts] : Prop :=
  ∀ (m : (ℓ : Loc Cert.FoxReferenceIdeal.nD Cert.FoxReferenceIdeal.τ Cert.FoxReferenceIdeal.sig) → Buf (Elt Ideal) ℓ) (g : Dev Cert.FoxReferenceIdeal.nD → PrngReg), Pre_FoxReferenceIdeal_finite m →
    θ_run (Cert.FoxReferenceIdeal.defs (F := Ideal)) (onTc (τ := Cert.FoxReferenceIdeal.τ) (Cert.FoxReferenceIdeal.main (F := Ideal))) ⟨m, fun _ => 0, g⟩ (fun r => (∀ c : Dev Cert.FoxReferenceIdeal.nD,
      r.2.mem ((c.tc : Thread Cert.FoxReferenceIdeal.nD Cert.FoxReferenceIdeal.τ).loc Cert.FoxReferenceIdeal.main_arg0) = m ((c.tc : Thread Cert.FoxReferenceIdeal.nD Cert.FoxReferenceIdeal.τ).loc Cert.FoxReferenceIdeal.main_arg0)
      ∧ r.2.mem ((c.tc : Thread Cert.FoxReferenceIdeal.nD Cert.FoxReferenceIdeal.τ).loc Cert.FoxReferenceIdeal.main_arg1) = m ((c.tc : Thread Cert.FoxReferenceIdeal.nD Cert.FoxReferenceIdeal.τ).loc Cert.FoxReferenceIdeal.main_arg1)
      ∧ r.2.mem ((c.tc : Thread Cert.FoxReferenceIdeal.nD Cert.FoxReferenceIdeal.τ).loc Cert.FoxReferenceIdeal.main_arg2) = m ((c.tc : Thread Cert.FoxReferenceIdeal.nD Cert.FoxReferenceIdeal.τ).loc Cert.FoxReferenceIdeal.main_arg2)
      ∧ r.2.mem ((c.tc : Thread Cert.FoxReferenceIdeal.nD Cert.FoxReferenceIdeal.τ).loc Cert.FoxReferenceIdeal.main_arg3) = m ((c.tc : Thread Cert.FoxReferenceIdeal.nD Cert.FoxReferenceIdeal.τ).loc Cert.FoxReferenceIdeal.main_arg3)
      ∧ r.2.mem ((c.tc : Thread Cert.FoxReferenceIdeal.nD Cert.FoxReferenceIdeal.τ).loc Cert.FoxReferenceIdeal.main_arg4) = m ((c.tc : Thread Cert.FoxReferenceIdeal.nD Cert.FoxReferenceIdeal.τ).loc Cert.FoxReferenceIdeal.main_arg4)
      ∧ r.2.mem ((c.tc : Thread Cert.FoxReferenceIdeal.nD Cert.FoxReferenceIdeal.τ).loc Cert.FoxReferenceIdeal.main_arg5) = m ((c.tc : Thread Cert.FoxReferenceIdeal.nD Cert.FoxReferenceIdeal.τ).loc Cert.FoxReferenceIdeal.main_arg5)
      ∧ r.2.mem ((c.tc : Thread Cert.FoxReferenceIdeal.nD Cert.FoxReferenceIdeal.τ).loc Cert.FoxReferenceIdeal.main_arg6) = m ((c.tc : Thread Cert.FoxReferenceIdeal.nD Cert.FoxReferenceIdeal.τ).loc Cert.FoxReferenceIdeal.main_arg6))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6)
      ∧ r.2.mem ((c.tc : Thread Cert.OutReferenceIdeal.nD Cert.OutReferenceIdeal.τ).loc Cert.OutReferenceIdeal.main_arg7) = m ((c.tc : Thread Cert.OutReferenceIdeal.nD Cert.OutReferenceIdeal.τ).loc Cert.OutReferenceIdeal.main_arg7))
      ∧ r.2.sem = fun _ => 0)

def quiescent_NormQ [hNormQ : Cert.NormQ.Facts] : Prop :=
  ∀ (m : (ℓ : Loc Cert.NormQ.nD Cert.NormQ.τ Cert.NormQ.sig) → Buf (Elt Bits) ℓ) (g : Dev Cert.NormQ.nD → PrngReg), Pre_NormQ m →
    θ_run (Cert.NormQ.defs (F := Bits)) (onTc (τ := Cert.NormQ.τ) (Cert.NormQ.main (F := Bits))) ⟨m, fun _ => 0, g⟩ (fun r => (∀ c : Dev Cert.NormQ.nD,
      r.2.mem ((c.tc : Thread Cert.NormQ.nD Cert.NormQ.τ).loc Cert.NormQ.main_arg0) = m ((c.tc : Thread Cert.NormQ.nD Cert.NormQ.τ).loc Cert.NormQ.main_arg0)
      ∧ r.2.mem ((c.tc : Thread Cert.NormQ.nD Cert.NormQ.τ).loc Cert.NormQ.main_arg1) = m ((c.tc : Thread Cert.NormQ.nD Cert.NormQ.τ).loc Cert.NormQ.main_arg1)
      ∧ r.2.mem ((c.tc : Thread Cert.NormQ.nD Cert.NormQ.τ).loc Cert.NormQ.main_arg2) = m ((c.tc : Thread Cert.NormQ.nD Cert.NormQ.τ).loc Cert.NormQ.main_arg2))
      ∧ r.2.sem = fun _ => 0)

def quiescent_NormQIdeal [hNormQIdeal : Cert.NormQIdeal.Facts] : Prop :=
  ∀ (m : (ℓ : Loc Cert.NormQIdeal.nD Cert.NormQIdeal.τ Cert.NormQIdeal.sig) → Buf (Elt Ideal) ℓ) (g : Dev Cert.NormQIdeal.nD → PrngReg), Pre_NormQIdeal m →
    θ_run (Cert.NormQIdeal.defs (F := Ideal)) (onTc (τ := Cert.NormQIdeal.τ) (Cert.NormQIdeal.main (F := Ideal))) ⟨m, fun _ => 0, g⟩ (fun r => (∀ c : Dev Cert.NormQIdeal.nD,
      r.2.mem ((c.tc : Thread Cert.NormQIdeal.nD Cert.NormQIdeal.τ).loc Cert.NormQIdeal.main_arg0) = m ((c.tc : Thread Cert.NormQIdeal.nD Cert.NormQIdeal.τ).loc Cert.NormQIdeal.main_arg0)
      ∧ r.2.mem ((c.tc : Thread Cert.NormQIdeal.nD Cert.NormQIdeal.τ).loc Cert.NormQIdeal.main_arg1) = m ((c.tc : Thread Cert.NormQIdeal.nD Cert.NormQIdeal.τ).loc Cert.NormQIdeal.main_arg1)
      ∧ r.2.mem ((c.tc : Thread Cert.NormQIdeal.nD Cert.NormQIdeal.τ).loc Cert.NormQIdeal.main_arg2) = m ((c.tc : Thread Cert.NormQIdeal.nD Cert.NormQIdeal.τ).loc Cert.NormQIdeal.main_arg2))
      ∧ r.2.sem = fun _ => 0)

def quiescent_NormQReferenceIdeal [hNormQReferenceIdeal : Cert.NormQReferenceIdeal.Facts] : Prop :=
  ∀ (m : (ℓ : Loc Cert.NormQReferenceIdeal.nD Cert.NormQReferenceIdeal.τ Cert.NormQReferenceIdeal.sig) → Buf (Elt Ideal) ℓ) (g : Dev Cert.NormQReferenceIdeal.nD → PrngReg), Pre_NormQReferenceIdeal m →
    θ_run (Cert.NormQReferenceIdeal.defs (F := Ideal)) (onTc (τ := Cert.NormQReferenceIdeal.τ) (Cert.NormQReferenceIdeal.main (F := Ideal))) ⟨m, fun _ => 0, g⟩ (fun r => (∀ c : Dev Cert.NormQReferenceIdeal.nD,
      r.2.mem ((c.tc : Thread Cert.NormQReferenceIdeal.nD Cert.NormQReferenceIdeal.τ).loc Cert.NormQReferenceIdeal.main_arg0) = m ((c.tc : Thread Cert.NormQReferenceIdeal.nD Cert.NormQReferenceIdeal.τ).loc Cert.NormQReferenceIdeal.main_arg0)
      ∧ r.2.mem ((c.tc : Thread Cert.NormQReferenceIdeal.nD Cert.NormQReferenceIdeal.τ).loc Cert.NormQReferenceIdeal.main_arg1) = m ((c.tc : Thread Cert.NormQReferenceIdeal.nD Cert.NormQReferenceIdeal.τ).loc Cert.NormQReferenceIdeal.main_arg1)
      ∧ r.2.mem ((c.tc : Thread Cert.NormQReferenceIdeal.nD Cert.NormQReferenceIdeal.τ).loc Cert.NormQReferenceIdeal.main_arg2) = m ((c.tc : Thread Cert.NormQReferenceIdeal.nD Cert.NormQReferenceIdeal.τ).loc Cert.NormQReferenceIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1))
      ∧ r.2.sem = fun _ => 0)

def preserves_Fox_FoxIdeal : Prop :=
  IdealRules.named_const.Statement Cert.FoxIdeal.κ "log2e" .f32 0x3FB8AA3B#32 (((Real.log 2)⁻¹ : ℝ) : EReal)

def algebraic_FoxIdeal_FoxReferenceIdeal_pre_finite [hFoxIdeal : Cert.FoxIdeal.Facts] [hFoxReferenceIdeal : Cert.FoxReferenceIdeal.Facts] [hPre_finite : Cert.Pre_finite.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxReferenceIdeal.nD Cert.FoxReferenceIdeal.τ Cert.FoxReferenceIdeal.sig) → Buf (Elt Ideal) ℓ) (g' : Dev Cert.FoxReferenceIdeal.nD → PrngReg), Pre_FoxIdeal_finite m →
    (∀ c : Dev Cert.FoxIdeal.nD,
      m' ((c.tc : Thread Cert.FoxReferenceIdeal.nD Cert.FoxReferenceIdeal.τ).loc Cert.FoxReferenceIdeal.main_arg0) = m ((c.tc : Thread Cert.FoxIdeal.nD Cert.FoxIdeal.τ).loc Cert.FoxIdeal.main_arg0)
      ∧ m' ((c.tc : Thread Cert.FoxReferenceIdeal.nD Cert.FoxReferenceIdeal.τ).loc Cert.FoxReferenceIdeal.main_arg1) = m ((c.tc : Thread Cert.FoxIdeal.nD Cert.FoxIdeal.τ).loc Cert.FoxIdeal.main_arg1)
      ∧ m' ((c.tc : Thread Cert.FoxReferenceIdeal.nD Cert.FoxReferenceIdeal.τ).loc Cert.FoxReferenceIdeal.main_arg2) = m ((c.tc : Thread Cert.FoxIdeal.nD Cert.FoxIdeal.τ).loc Cert.FoxIdeal.main_arg2)
      ∧ m' ((c.tc : Thread Cert.FoxReferenceIdeal.nD Cert.FoxReferenceIdeal.τ).loc Cert.FoxReferenceIdeal.main_arg3) = m ((c.tc : Thread Cert.FoxIdeal.nD Cert.FoxIdeal.τ).loc Cert.FoxIdeal.main_arg3)
      ∧ m' ((c.tc : Thread Cert.FoxReferenceIdeal.nD Cert.FoxReferenceIdeal.τ).loc Cert.FoxReferenceIdeal.main_arg4) = m ((c.tc : Thread Cert.FoxIdeal.nD Cert.FoxIdeal.τ).loc Cert.FoxIdeal.main_arg4)
      ∧ m' ((c.tc : Thread Cert.FoxReferenceIdeal.nD Cert.FoxReferenceIdeal.τ).loc Cert.FoxReferenceIdeal.main_arg5) = m ((c.tc : Thread Cert.FoxIdeal.nD Cert.FoxIdeal.τ).loc Cert.FoxIdeal.main_arg5)
      ∧ m' ((c.tc : Thread Cert.FoxReferenceIdeal.nD Cert.FoxReferenceIdeal.τ).loc Cert.FoxReferenceIdeal.main_arg6) = m ((c.tc : Thread Cert.FoxIdeal.nD Cert.FoxIdeal.τ).loc Cert.FoxIdeal.main_arg6)) →
    ∃ (v0 : (c : Dev Cert.FoxIdeal.nD) → Buf (Elt Ideal) ((c.tc : Thread Cert.FoxIdeal.nD Cert.FoxIdeal.τ).loc Cert.FoxIdeal.main_v0_0)) (v1 : (c : Dev Cert.FoxIdeal.nD) → Buf (Elt Ideal) ((c.tc : Thread Cert.FoxIdeal.nD Cert.FoxIdeal.τ).loc Cert.FoxIdeal.main_v0_1)) (v2 : (c : Dev Cert.FoxIdeal.nD) → Buf (Elt Ideal) ((c.tc : Thread Cert.FoxIdeal.nD Cert.FoxIdeal.τ).loc Cert.FoxIdeal.main_v0_2)) (v3 : (c : Dev Cert.FoxIdeal.nD) → Buf (Elt Ideal) ((c.tc : Thread Cert.FoxIdeal.nD Cert.FoxIdeal.τ).loc Cert.FoxIdeal.main_v0_3)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v0_0) = v0 c
          ∧ r.2.mem ((c.tc : Thread Cert.FoxIdeal.nD Cert.FoxIdeal.τ).loc Cert.FoxIdeal.main_v0_1) = v1 c
          ∧ r.2.mem ((c.tc : Thread Cert.FoxIdeal.nD Cert.FoxIdeal.τ).loc Cert.FoxIdeal.main_v0_2) = v2 c
          ∧ r.2.mem ((c.tc : Thread Cert.FoxIdeal.nD Cert.FoxIdeal.τ).loc Cert.FoxIdeal.main_v0_3) = v3 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
          ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
          ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4)
          ∧ r.2.mem ((c.tc : Thread Cert.FoxIdeal.nD Cert.FoxIdeal.τ).loc Cert.FoxIdeal.main_arg5) = m ((c.tc : Thread Cert.FoxIdeal.nD Cert.FoxIdeal.τ).loc Cert.FoxIdeal.main_arg5)
          ∧ r.2.mem ((c.tc : Thread Cert.FoxIdeal.nD Cert.FoxIdeal.τ).loc Cert.FoxIdeal.main_arg6) = m ((c.tc : Thread Cert.FoxIdeal.nD Cert.FoxIdeal.τ).loc Cert.FoxIdeal.main_arg6))
      ∧ θ_run (Cert.FoxReferenceIdeal.defs (F := Ideal)) (onTc (τ := Cert.FoxReferenceIdeal.τ) (Cert.FoxReferenceIdeal.main (F := Ideal))) ⟨m', fun _ => 0, g'⟩ (fun r => ∀ c : Dev Cert.FoxReferenceIdeal.nD,
          r.2.mem ((c.tc : Thread Cert.FoxReferenceIdeal.nD Cert.FoxReferenceIdeal.τ).loc Cert.FoxReferenceIdeal.main_v47) = v0 c
          ∧ r.2.mem ((c.tc : Thread Cert.FoxReferenceIdeal.nD Cert.FoxReferenceIdeal.τ).loc Cert.FoxReferenceIdeal.main_v48) = v1 c
          ∧ r.2.mem ((c.tc : Thread Cert.FoxReferenceIdeal.nD Cert.FoxReferenceIdeal.τ).loc Cert.FoxReferenceIdeal.main_v49) = v2 c
          ∧ r.2.mem ((c.tc : Thread Cert.FoxReferenceIdeal.nD Cert.FoxReferenceIdeal.τ).loc Cert.FoxReferenceIdeal.main_v50) = v3 c
          ∧ r.2.mem ((c.tc : Thread Cert.FoxReferenceIdeal.nD Cert.FoxReferenceIdeal.τ).loc Cert.FoxReferenceIdeal.main_arg0) = m' ((c.tc : Thread Cert.FoxReferenceIdeal.nD Cert.FoxReferenceIdeal.τ).loc Cert.FoxReferenceIdeal.main_arg0)
          ∧ r.2.mem ((c.tc : Thread Cert.FoxReferenceIdeal.nD Cert.FoxReferenceIdeal.τ).loc Cert.FoxReferenceIdeal.main_arg1) = m' ((c.tc : Thread Cert.FoxReferenceIdeal.nD Cert.FoxReferenceIdeal.τ).loc Cert.FoxReferenceIdeal.main_arg1)
          ∧ r.2.mem ((c.tc : Thread Cert.FoxReferenceIdeal.nD Cert.FoxReferenceIdeal.τ).loc Cert.FoxReferenceIdeal.main_arg2) = m' ((c.tc : Thread Cert.FoxReferenceIdeal.nD Cert.FoxReferenceIdeal.τ).loc Cert.FoxReferenceIdeal.main_arg2)
          ∧ r.2.mem ((c.tc : Thread Cert.FoxReferenceIdeal.nD Cert.FoxReferenceIdeal.τ).loc Cert.FoxReferenceIdeal.main_arg3) = m' ((c.tc : Thread Cert.FoxReferenceIdeal.nD Cert.FoxReferenceIdeal.τ).loc Cert.FoxReferenceIdeal.main_arg3)
          ∧ r.2.mem ((c.tc : Thread Cert.FoxReferenceIdeal.nD Cert.FoxReferenceIdeal.τ).loc Cert.FoxReferenceIdeal.main_arg4) = m' ((c.tc : Thread Cert.FoxReferenceIdeal.nD Cert.FoxReferenceIdeal.τ).loc Cert.FoxReferenceIdeal.main_arg4)
          ∧ r.2.mem ((c.tc : Thread Cert.FoxReferenceIdeal.nD Cert.FoxReferenceIdeal.τ).loc Cert.FoxReferenceIdeal.main_arg5) = m' ((c.tc : Thread Cert.FoxReferenceIdeal.nD Cert.FoxReferenceIdeal.τ).loc Cert.FoxReferenceIdeal.main_arg5)
          ∧ r.2.mem ((c.tc : Thread Cert.FoxReferenceIdeal.nD Cert.FoxReferenceIdeal.τ).loc Cert.FoxReferenceIdeal.main_arg6) = m' ((c.tc : Thread Cert.FoxReferenceIdeal.nD Cert.FoxReferenceIdeal.τ).loc Cert.FoxReferenceIdeal.main_arg6))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)
      ∧ m' ((c.tc : Thread Cert.OutReferenceIdeal.nD Cert.OutReferenceIdeal.τ).loc Cert.OutReferenceIdeal.main_arg4) = m ((c.tc : Thread Cert.OutIdeal.nD Cert.OutIdeal.τ).loc Cert.OutIdeal.main_arg4)
      ∧ m' ((c.tc : Thread Cert.OutReferenceIdeal.nD Cert.OutReferenceIdeal.τ).loc Cert.OutReferenceIdeal.main_arg5) = m ((c.tc : Thread Cert.OutIdeal.nD Cert.OutIdeal.τ).loc Cert.OutIdeal.main_arg5)
      ∧ m' ((c.tc : Thread Cert.OutReferenceIdeal.nD Cert.OutReferenceIdeal.τ).loc Cert.OutReferenceIdeal.main_arg6) = m ((c.tc : Thread Cert.OutIdeal.nD Cert.OutIdeal.τ).loc Cert.OutIdeal.main_arg6)
      ∧ m' ((c.tc : Thread Cert.OutReferenceIdeal.nD Cert.OutReferenceIdeal.τ).loc Cert.OutReferenceIdeal.main_arg7) = m ((c.tc : Thread Cert.OutIdeal.nD Cert.OutIdeal.τ).loc Cert.OutIdeal.main_arg7)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v39) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5)
          ∧ r.2.mem ((c.tc : Thread Cert.OutReferenceIdeal.nD Cert.OutReferenceIdeal.τ).loc Cert.OutReferenceIdeal.main_arg6) = m' ((c.tc : Thread Cert.OutReferenceIdeal.nD Cert.OutReferenceIdeal.τ).loc Cert.OutReferenceIdeal.main_arg6)
          ∧ r.2.mem ((c.tc : Thread Cert.OutReferenceIdeal.nD Cert.OutReferenceIdeal.τ).loc Cert.OutReferenceIdeal.main_arg7) = m' ((c.tc : Thread Cert.OutReferenceIdeal.nD Cert.OutReferenceIdeal.τ).loc Cert.OutReferenceIdeal.main_arg7))

def preserves_NormQ_NormQIdeal : Prop :=
  IdealRules.named_const.Statement Cert.NormQIdeal.κ "q_scale" .f32 0x3E0293EE#32 (((Real.sqrt 128)⁻¹ * (Real.log 2)⁻¹ : ℝ) : EReal)

def algebraic_NormQIdeal_NormQReferenceIdeal [hNormQIdeal : Cert.NormQIdeal.Facts] [hNormQReferenceIdeal : Cert.NormQReferenceIdeal.Facts] : Prop :=
  ∀ (m : (ℓ : Loc Cert.NormQIdeal.nD Cert.NormQIdeal.τ Cert.NormQIdeal.sig) → Buf (Elt Ideal) ℓ) (g : Dev Cert.NormQIdeal.nD → PrngReg)
    (m' : (ℓ : Loc Cert.NormQReferenceIdeal.nD Cert.NormQReferenceIdeal.τ Cert.NormQReferenceIdeal.sig) → Buf (Elt Ideal) ℓ) (g' : Dev Cert.NormQReferenceIdeal.nD → PrngReg), Pre_NormQIdeal m →
    (∀ c : Dev Cert.NormQIdeal.nD,
      m' ((c.tc : Thread Cert.NormQReferenceIdeal.nD Cert.NormQReferenceIdeal.τ).loc Cert.NormQReferenceIdeal.main_arg0) = m ((c.tc : Thread Cert.NormQIdeal.nD Cert.NormQIdeal.τ).loc Cert.NormQIdeal.main_arg0)
      ∧ m' ((c.tc : Thread Cert.NormQReferenceIdeal.nD Cert.NormQReferenceIdeal.τ).loc Cert.NormQReferenceIdeal.main_arg1) = m ((c.tc : Thread Cert.NormQIdeal.nD Cert.NormQIdeal.τ).loc Cert.NormQIdeal.main_arg1)
      ∧ m' ((c.tc : Thread Cert.NormQReferenceIdeal.nD Cert.NormQReferenceIdeal.τ).loc Cert.NormQReferenceIdeal.main_arg2) = m ((c.tc : Thread Cert.NormQIdeal.nD Cert.NormQIdeal.τ).loc Cert.NormQIdeal.main_arg2)) →
    ∃ (v0 : (c : Dev Cert.NormQIdeal.nD) → Buf (Elt Ideal) ((c.tc : Thread Cert.NormQIdeal.nD Cert.NormQIdeal.τ).loc Cert.NormQIdeal.main_v5_0)) (v1 : (c : Dev Cert.NormQIdeal.nD) → Buf (Elt Ideal) ((c.tc : Thread Cert.NormQIdeal.nD Cert.NormQIdeal.τ).loc Cert.NormQIdeal.main_v5_1)),
      θ_run (Cert.NormQIdeal.defs (F := Ideal)) (onTc (τ := Cert.NormQIdeal.τ) (Cert.NormQIdeal.main (F := Ideal))) ⟨m, fun _ => 0, g⟩ (fun r => ∀ c : Dev Cert.NormQIdeal.nD,
          r.2.mem ((c.tc : Thread Cert.NormQIdeal.nD Cert.NormQIdeal.τ).loc Cert.NormQIdeal.main_v5_0) = v0 c
          ∧ r.2.mem ((c.tc : Thread Cert.NormQIdeal.nD Cert.NormQIdeal.τ).loc Cert.NormQIdeal.main_v5_1) = v1 c
          ∧ r.2.mem ((c.tc : Thread Cert.NormQIdeal.nD Cert.NormQIdeal.τ).loc Cert.NormQIdeal.main_arg0) = m ((c.tc : Thread Cert.NormQIdeal.nD Cert.NormQIdeal.τ).loc Cert.NormQIdeal.main_arg0)
          ∧ r.2.mem ((c.tc : Thread Cert.NormQIdeal.nD Cert.NormQIdeal.τ).loc Cert.NormQIdeal.main_arg1) = m ((c.tc : Thread Cert.NormQIdeal.nD Cert.NormQIdeal.τ).loc Cert.NormQIdeal.main_arg1)
          ∧ r.2.mem ((c.tc : Thread Cert.NormQIdeal.nD Cert.NormQIdeal.τ).loc Cert.NormQIdeal.main_arg2) = m ((c.tc : Thread Cert.NormQIdeal.nD Cert.NormQIdeal.τ).loc Cert.NormQIdeal.main_arg2))
      ∧ θ_run (Cert.NormQReferenceIdeal.defs (F := Ideal)) (onTc (τ := Cert.NormQReferenceIdeal.τ) (Cert.NormQReferenceIdeal.main (F := Ideal))) ⟨m', fun _ => 0, g'⟩ (fun r => ∀ c : Dev Cert.NormQReferenceIdeal.nD,
          r.2.mem ((c.tc : Thread Cert.NormQReferenceIdeal.nD Cert.NormQReferenceIdeal.τ).loc Cert.NormQReferenceIdeal.main_v24) = v0 c
          ∧ r.2.mem ((c.tc : Thread Cert.NormQReferenceIdeal.nD Cert.NormQReferenceIdeal.τ).loc Cert.NormQReferenceIdeal.main_v25) = v1 c
          ∧ r.2.mem ((c.tc : Thread Cert.NormQReferenceIdeal.nD Cert.NormQReferenceIdeal.τ).loc Cert.NormQReferenceIdeal.main_arg0) = m' ((c.tc : Thread Cert.NormQReferenceIdeal.nD Cert.NormQReferenceIdeal.τ).loc Cert.NormQReferenceIdeal.main_arg0)
          ∧ r.2.mem ((c.tc : Thread Cert.NormQReferenceIdeal.nD Cert.NormQReferenceIdeal.τ).loc Cert.NormQReferenceIdeal.main_arg1) = m' ((c.tc : Thread Cert.NormQReferenceIdeal.nD Cert.NormQReferenceIdeal.τ).loc Cert.NormQReferenceIdeal.main_arg1)
          ∧ r.2.mem ((c.tc : Thread Cert.NormQReferenceIdeal.nD Cert.NormQReferenceIdeal.τ).loc Cert.NormQReferenceIdeal.main_arg2) = m' ((c.tc : Thread Cert.NormQReferenceIdeal.nD Cert.NormQReferenceIdeal.τ).loc Cert.NormQReferenceIdeal.main_arg2))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v9_0)) (v1 : (c : Dev Cert.ProjIdeal.nD) → Buf (Elt Ideal) ((c.tc : Thread Cert.ProjIdeal.nD Cert.ProjIdeal.τ).loc Cert.ProjIdeal.main_v9_1)) (v2 : (c : Dev Cert.ProjIdeal.nD) → Buf (Elt Ideal) ((c.tc : Thread Cert.ProjIdeal.nD Cert.ProjIdeal.τ).loc Cert.ProjIdeal.main_v9_2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v9_0) = v0 c
          ∧ r.2.mem ((c.tc : Thread Cert.ProjIdeal.nD Cert.ProjIdeal.τ).loc Cert.ProjIdeal.main_v9_1) = v1 c
          ∧ r.2.mem ((c.tc : Thread Cert.ProjIdeal.nD Cert.ProjIdeal.τ).loc Cert.ProjIdeal.main_v9_2) = v2 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v20) = v0 c
          ∧ r.2.mem ((c.tc : Thread Cert.ProjReferenceIdeal.nD Cert.ProjReferenceIdeal.τ).loc Cert.ProjReferenceIdeal.main_v16) = v1 c
          ∧ r.2.mem ((c.tc : Thread Cert.ProjReferenceIdeal.nD Cert.ProjReferenceIdeal.τ).loc Cert.ProjReferenceIdeal.main_v19) = v2 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def preserves_Gate_GateIdeal : Prop :=
  True

def algebraic_GateIdeal_GateReferenceIdeal [hGateIdeal : Cert.GateIdeal.Facts] [hGateReferenceIdeal : Cert.GateReferenceIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateIdeal m →
    (∀ c : Dev Cert.GateIdeal.nD,
      m' ((c.tc : Thread Cert.GateReferenceIdeal.nD Cert.GateReferenceIdeal.τ).loc Cert.GateReferenceIdeal.main_arg0) = m ((c.tc : Thread Cert.GateIdeal.nD Cert.GateIdeal.τ).loc Cert.GateIdeal.main_arg0)
      ∧ m' ((c.tc : Thread Cert.GateReferenceIdeal.nD Cert.GateReferenceIdeal.τ).loc Cert.GateReferenceIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v3)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v3) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v10) = v0 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1))

def Claim : Prop :=
  ∃ (hFox : Cert.Fox.Facts) (hFoxIdeal : Cert.FoxIdeal.Facts) (hFoxReferenceIdeal : Cert.FoxReferenceIdeal.Facts) (hOut : Cert.Out.Facts) (hOutIdeal : Cert.OutIdeal.Facts) (hOutReferenceIdeal : Cert.OutReferenceIdeal.Facts) (hNormQ : Cert.NormQ.Facts) (hNormQIdeal : Cert.NormQIdeal.Facts) (hNormQReferenceIdeal : Cert.NormQReferenceIdeal.Facts) (hProj : Cert.Proj.Facts) (hProjIdeal : Cert.ProjIdeal.Facts) (hProjReferenceIdeal : Cert.ProjReferenceIdeal.Facts) (hGate : Cert.Gate.Facts) (hGateIdeal : Cert.GateIdeal.Facts) (hGateReferenceIdeal : Cert.GateReferenceIdeal.Facts) (hPre_finite : Cert.Pre_finite.Facts),
    quiescent_Fox (hFox := hFox)
    ∧ quiescent_FoxIdeal (hFoxIdeal := hFoxIdeal)
    ∧ quiescent_FoxIdeal_pre_finite (hFoxIdeal := hFoxIdeal) (hPre_finite := hPre_finite)
    ∧ quiescent_FoxReferenceIdeal (hFoxReferenceIdeal := hFoxReferenceIdeal)
    ∧ quiescent_FoxReferenceIdeal_pre_finite (hFoxReferenceIdeal := hFoxReferenceIdeal) (hPre_finite := hPre_finite)
    ∧ quiescent_Out (hOut := hOut)
    ∧ quiescent_OutIdeal (hOutIdeal := hOutIdeal)
    ∧ quiescent_OutReferenceIdeal (hOutReferenceIdeal := hOutReferenceIdeal)
    ∧ quiescent_NormQ (hNormQ := hNormQ)
    ∧ quiescent_NormQIdeal (hNormQIdeal := hNormQIdeal)
    ∧ quiescent_NormQReferenceIdeal (hNormQReferenceIdeal := hNormQReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_Gate (hGate := hGate)
    ∧ quiescent_GateIdeal (hGateIdeal := hGateIdeal)
    ∧ quiescent_GateReferenceIdeal (hGateReferenceIdeal := hGateReferenceIdeal)
    ∧ preserves_Fox_FoxIdeal
    ∧ algebraic_FoxIdeal_FoxReferenceIdeal_pre_finite (hFoxIdeal := hFoxIdeal) (hFoxReferenceIdeal := hFoxReferenceIdeal) (hPre_finite := hPre_finite)
    ∧ preserves_Out_OutIdeal
    ∧ algebraic_OutIdeal_OutReferenceIdeal (hOutIdeal := hOutIdeal) (hOutReferenceIdeal := hOutReferenceIdeal)
    ∧ preserves_NormQ_NormQIdeal
    ∧ algebraic_NormQIdeal_NormQReferenceIdeal (hNormQIdeal := hNormQIdeal) (hNormQReferenceIdeal := hNormQReferenceIdeal)
    ∧ preserves_Proj_ProjIdeal
    ∧ algebraic_ProjIdeal_ProjReferenceIdeal (hProjIdeal := hProjIdeal) (hProjReferenceIdeal := hProjReferenceIdeal)
    ∧ preserves_Gate_GateIdeal
    ∧ algebraic_GateIdeal_GateReferenceIdeal (hGateIdeal := hGateIdeal) (hGateReferenceIdeal := hGateReferenceIdeal)
-- ==== Pre_finite.lean ====
abbrev S4x2048x1024 : Shape := ⟨3, ![4, 2048, 1024]⟩
abbrev S4x2048x2048 : Shape := ⟨3, ![4, 2048, 2048]⟩
abbrev S4x2048x128 : Shape := ⟨3, ![4, 2048, 128]⟩
abbrev S4x2048x9216 : Shape := ⟨3, ![4, 2048, 9216]⟩
abbrev S1024x2048 : Shape := ⟨2, ![1024, 2048]⟩
abbrev S2048x2048 : Shape := ⟨2, ![2048, 2048]⟩
abbrev S_ : Shape := ⟨0, ![]⟩
abbrev S4x2048x8 : Shape := ⟨3, ![4, 2048, 8]⟩

class Facts : Prop where
  bitsLt_bf16_f32 : FTy.bits .bf16 < FTy.bits .f32
  bcast_S_S4x2048x1024 : S_.BroadcastsInDim S4x2048x1024 (![] : Fin 0 → Fin S4x2048x1024.rank)
  slices_S4x2048x2048_S4x2048x1024_0_0_0 : S4x2048x2048.Slices ![0, 0, 0] S4x2048x1024
  slices_S4x2048x128_S4x2048x8_0_0_96 : S4x2048x128.Slices ![0, 0, 96] S4x2048x8
  bcast_S_S4x2048x8 : S_.BroadcastsInDim S4x2048x8 (![] : Fin 0 → Fin S4x2048x8.rank)

variable [Facts]

def fn {F : FTy → Type} [FloatOps F] (main_arg0 : FVec F S4x2048x1024 .bf16) (main_arg1 : FVec F S4x2048x2048 .bf16) (main_arg2 : FVec F S4x2048x128 .f32) (main_arg3 : FVec F S4x2048x9216 .f32) (main_arg4 : FVec F S1024x2048 .f32) (main_arg5 : FVec F S1024x2048 .f32) (main_arg6 : FVec F S2048x2048 .f32) : IVec S4x2048x1024 1 × IVec S4x2048x1024 1 × IVec S4x2048x8 1 :=
  let main_v0 : FVec F S4x2048x1024 .f32 := (extf .f32 · bitsLt_bf16_f32) main_arg0
  let main_v1 : FVec F S4x2048x1024 .f32 := Host.absf main_v0
  let main_cst : FVec F S_ .f32 := constant S_ .f32 0x7F800000#32
  let main_v2 : FVec F S4x2048x1024 .f32 := broadcastInDim S4x2048x1024 ![] bcast_S_S4x2048x1024 main_cst
  let main_v3 : IVec S4x2048x1024 1 := cmpf .olt main_v1 main_v2
  let main_v4 : FVec F S4x2048x2048 .f32 := (extf .f32 · bitsLt_bf16_f32) main_arg1
  let main_v5 : FVec F S4x2048x1024 .f32 := (extractStridedSlice S4x2048x1024 ![0, 0, 0] · slices_S4x2048x2048_S4x2048x1024_0_0_0) main_v4
  let main_v6 : FVec F S4x2048x1024 .f32 := Host.absf main_v5
  let main_cst_0 : FVec F S_ .f32 := constant S_ .f32 0x7F800000#32
  let main_v7 : FVec F S4x2048x1024 .f32 := broadcastInDim S4x2048x1024 ![] bcast_S_S4x2048x1024 main_cst_0
  let main_v8 : IVec S4x2048x1024 1 := cmpf .olt main_v6 main_v7
  let main_v9 : FVec F S4x2048x8 .f32 := (extractStridedSlice S4x2048x8 ![0, 0, 96] · slices_S4x2048x128_S4x2048x8_0_0_96) main_arg2
  let main_v10 : FVec F S4x2048x8 .f32 := Host.absf main_v9
  let main_cst_1 : FVec F S_ .f32 := constant S_ .f32 0x7F800000#32
  let main_v11 : FVec F S4x2048x8 .f32 := broadcastInDim S4x2048x8 ![] bcast_S_S4x2048x8 main_cst_1
  let main_v12 : IVec S4x2048x8 1 := cmpf .olt main_v10 main_v11
  (main_v3, main_v8, main_v12)
-- ==== Fox.lean ====
abbrev S4x2048x1024 : Shape := ⟨3, ![4, 2048, 1024]⟩
abbrev S4x2048x2048 : Shape := ⟨3, ![4, 2048, 2048]⟩
abbrev S4x2048x128 : Shape := ⟨3, ![4, 2048, 128]⟩
abbrev S4x2048x9216 : Shape := ⟨3, ![4, 2048, 9216]⟩
abbrev S1024x2048 : Shape := ⟨2, ![1024, 2048]⟩
abbrev S2048x2048 : Shape := ⟨2, ![2048, 2048]⟩
abbrev S1x2048x128 : Shape := ⟨3, ![1, 2048, 128]⟩
abbrev S32x2048 : Shape := ⟨2, ![32, 2048]⟩
abbrev S64x2048 : Shape := ⟨2, ![64, 2048]⟩
abbrev S2048x1 : Shape := ⟨2, ![2048, 1]⟩
abbrev S8x128x256 : Shape := ⟨3, ![8, 128, 256]⟩
abbrev S8x136x256 : Shape := ⟨3, ![8, 136, 256]⟩
abbrev S1x128 : Shape := ⟨2, ![1, 128]⟩
abbrev S2048x128 : Shape := ⟨2, ![2048, 128]⟩
abbrev S2048 : Shape := ⟨1, ![2048]⟩
abbrev S1x256x128 : Shape := ⟨3, ![1, 256, 128]⟩
abbrev S256x128 : Shape := ⟨2, ![256, 128]⟩
abbrev S128x256 : Shape := ⟨2, ![128, 256]⟩
abbrev S1x128x256 : Shape := ⟨3, ![1, 128, 256]⟩
abbrev S8x256 : Shape := ⟨2, ![8, 256]⟩
abbrev S1x8x256 : Shape := ⟨3, ![1, 8, 256]⟩
abbrev S256x256 : Shape := ⟨2, ![256, 256]⟩
abbrev S256x1 : Shape := ⟨2, ![256, 1]⟩
abbrev S256 : Shape := ⟨1, ![256]⟩
abbrev S1x256 : Shape := ⟨2, ![1, 256]⟩
abbrev S1x136x256 : Shape := ⟨3, ![1, 136, 256]⟩
abbrev S136x256 : Shape := ⟨2, ![136, 256]⟩

abbrev nBuf : Space → Nat
  | .hbm => 11
  | .vmem => 27
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x2048, .bf16⟩
  | .hbm, ⟨2, _⟩ => ⟨S4x2048x128, .f32⟩
  | .hbm, ⟨3, _⟩ => ⟨S4x2048x9216, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S4x2048x1024, .bf16⟩
  | .hbm, ⟨8, _⟩ => ⟨S1024x2048, .bf16⟩
  | .hbm, ⟨9, _⟩ => ⟨S1024x2048, .bf16⟩
  | .hbm, ⟨10, _⟩ => ⟨S2048x2048, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .f32⟩
  | .local _ .vmem, ⟨7, _⟩ => ⟨S1x2048x128, .f32⟩
  | .local _ .vmem, ⟨8, _⟩ => ⟨S1x2048x128, .f32⟩
  | .local _ .vmem, ⟨9, _⟩ => ⟨S1x2048x128, .f32⟩
  | .local _ .vmem, ⟨10, _⟩ => ⟨S32x2048, .f32⟩
  | .local _ .vmem, ⟨11, _⟩ => ⟨S32x2048, .f32⟩
  | .local _ .vmem, ⟨12, _⟩ => ⟨S32x2048, .f32⟩
  | .local _ .vmem, ⟨13, _⟩ => ⟨S32x2048, .f32⟩
  | .local _ .vmem, ⟨14, _⟩ => ⟨S64x2048, .f32⟩
  | .local _ .vmem, ⟨15, _⟩ => ⟨S64x2048, .f32⟩
  | .local _ .vmem, ⟨16, _⟩ => ⟨S1x2048x128, .bf16⟩
  | .local _ .vmem, ⟨17, _⟩ => ⟨S1x2048x128, .bf16⟩
  | .local _ .vmem, ⟨18, _⟩ => ⟨S32x2048, .bf16⟩
  | .local _ .vmem, ⟨19, _⟩ => ⟨S32x2048, .bf16⟩
  | .local _ .vmem, ⟨20, _⟩ => ⟨S32x2048, .bf16⟩
  | .local _ .vmem, ⟨21, _⟩ => ⟨S32x2048, .bf16⟩
  | .local _ .vmem, ⟨22, _⟩ => ⟨S64x2048, .bf16⟩
  | .local _ .vmem, ⟨23, _⟩ => ⟨S64x2048, .bf16⟩
  | .local _ .vmem, ⟨24, _⟩ => ⟨S2048x1, .f32⟩
  | .local _ .vmem, ⟨25, _⟩ => ⟨S8x128x256, .f32⟩
  | .local _ .vmem, ⟨26, _⟩ => ⟨S8x136x256, .bf16⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S32x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S32x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S64x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== FoxIdeal.lean ====
variable {F : FTy → Type} [FloatOps F] [Named F]
def κ : String → Option EReal := fun
  | "log2e" => some (((Real.log 2)⁻¹ : ℝ) : EReal)
  | _ => none
-- ==== FoxReferenceIdeal.lean ====
abbrev S4x2048x1024 : Shape := ⟨3, ![4, 2048, 1024]⟩
abbrev S4x2048x2048 : Shape := ⟨3, ![4, 2048, 2048]⟩
abbrev S4x2048x128 : Shape := ⟨3, ![4, 2048, 128]⟩
abbrev S4x2048x9216 : Shape := ⟨3, ![4, 2048, 9216]⟩
abbrev S1024x2048 : Shape := ⟨2, ![1024, 2048]⟩
abbrev S2048x2048 : Shape := ⟨2, ![2048, 2048]⟩
abbrev S4x2048x8x128 : Shape := ⟨4, ![4, 2048, 8, 128]⟩
abbrev S4x8x2048x128 : Shape := ⟨4, ![4, 8, 2048, 128]⟩
abbrev S4x2048x8 : Shape := ⟨3, ![4, 2048, 8]⟩
abbrev S4x8x2048 : Shape := ⟨3, ![4, 8, 2048]⟩
abbrev S4x8x2048x2048 : Shape := ⟨4, ![4, 8, 2048, 2048]⟩
abbrev S_ : Shape := ⟨0, ![]⟩
abbrev S4x8x2048x1 : Shape := ⟨4, ![4, 8, 2048, 1]⟩
abbrev S4x8x1x2048 : Shape := ⟨4, ![4, 8, 1, 2048]⟩
abbrev S2048 : Shape := ⟨1, ![2048]⟩
abbrev S1x2048 : Shape := ⟨2, ![1, 2048]⟩
abbrev S2048x1 : Shape := ⟨2, ![2048, 1]⟩

abbrev nBuf : Space → Nat
  | .hbm => 74
  | .vmem => 0
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x2048, .bf16⟩
  | .hbm, ⟨2, _⟩ => ⟨S4x2048x128, .f32⟩
  | .hbm, ⟨3, _⟩ => ⟨S4x2048x9216, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S4x2048x1024, .f32⟩
  | .hbm, ⟨8, _⟩ => ⟨S4x2048x2048, .f32⟩
  | .hbm, ⟨9, _⟩ => ⟨S4x2048x1024, .f32⟩
  | .hbm, ⟨10, _⟩ => ⟨S4x2048x8x128, .f32⟩
  | .hbm, ⟨11, _⟩ => ⟨S4x8x2048x128, .f32⟩
  | .hbm, ⟨12, _⟩ => ⟨S4x2048x1024, .f32⟩
  | .hbm, ⟨13, _⟩ => ⟨S4x2048x8x128, .f32⟩
  | .hbm, ⟨14, _⟩ => ⟨S4x8x2048x128, .f32⟩
  | .hbm, ⟨15, _⟩ => ⟨S4x2048x1024, .f32⟩
  | .hbm, ⟨16, _⟩ => ⟨S4x2048x8, .f32⟩
  | .hbm, ⟨17, _⟩ => ⟨S4x8x2048, .f32⟩
  | .hbm, ⟨18, _⟩ => ⟨S4x2048x8x128, .f32⟩
  | .hbm, ⟨19, _⟩ => ⟨S4x8x2048x128, .f32⟩
  | .hbm, ⟨20, _⟩ => ⟨S4x8x2048x2048, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4x8x2048x2048, .f32⟩
  | .hbm, ⟨25, _⟩ => ⟨S4x8x2048x2048, .f32⟩
  | .hbm, ⟨26, _⟩ => ⟨S4x8x2048x1, .f32⟩
  | .hbm, ⟨27, _⟩ => ⟨S4x8x2048x2048, .f32⟩
  | .hbm, ⟨28, _⟩ => ⟨S4x8x2048x2048, .f32⟩
  | .hbm, ⟨29, _⟩ => ⟨S4x8x1x2048, .f32⟩
  | .hbm, ⟨30, _⟩ => ⟨S4x8x2048x2048, .f32⟩
  | .hbm, ⟨31, _⟩ => ⟨S4x8x2048x2048, .f32⟩
  | .hbm, ⟨32, _⟩ => ⟨S2048, .i32⟩
  | .hbm, ⟨33, _⟩ => ⟨S1x2048, .i32⟩
  | .hbm, ⟨34, _⟩ => ⟨S2048x1, .i32⟩
  | .hbm, ⟨35, _⟩ => ⟨S2048x2048, .i32⟩
  | .hbm, ⟨36, _⟩ => ⟨S2048x2048, .i32⟩
  | .hbm, ⟨37, _⟩ => ⟨S2048x2048, .i1⟩
  | .hbm, ⟨38, _⟩ => ⟨S_, .f32⟩
  | .hbm, ⟨39, _⟩ => ⟨S_, .f32⟩
  | .hbm, ⟨40, _⟩ => ⟨S4x8x2048x2048, .i1⟩
  | .hbm, ⟨41, _⟩ => ⟨S4x8x2048x2048, .f32⟩
  | .hbm, ⟨42, _⟩ => ⟨S4x8x2048x2048, .f32⟩
  | .hbm, ⟨43, _⟩ => ⟨S_, .f32⟩
  | .hbm, ⟨44, _⟩ => ⟨S4x8x2048, .f32⟩
  | .hbm, ⟨45, _⟩ => ⟨S_, .f32⟩
  | .hbm, ⟨46, _⟩ => ⟨S4x8x2048, .f32⟩
  | .hbm, ⟨47, _⟩ => ⟨S4x8x2048, .f32⟩
  | .hbm, ⟨48, _⟩ => ⟨S4x8x2048x1, .f32⟩
  | .hbm, ⟨49, _⟩ => ⟨S4x8x2048x2048, .f32⟩
  | .hbm, ⟨50, _⟩ => ⟨S4x8x2048x2048, .f32⟩
  | .hbm, ⟨51, _⟩ => ⟨S4x8x2048x2048, .f32⟩
  | .hbm, ⟨52, _⟩ => ⟨S_, .f32⟩
  | .hbm, ⟨53, _⟩ => ⟨S4x8x2048, .f32⟩
  | .hbm, ⟨54, _⟩ => ⟨S4x8x2048x1, .f32⟩
  | .hbm, ⟨55, _⟩ => ⟨S4x8x2048x2048, .f32⟩
  | .hbm, ⟨56, _⟩ => ⟨S4x8x2048x2048, .f32⟩
  | .hbm, ⟨57, _⟩ => ⟨S4x8x2048x128, .f32⟩
  | .hbm, ⟨58, _⟩ => ⟨S4x2048x8x128, .f32⟩
  | .hbm, ⟨59, _⟩ => ⟨S4x2048x1024, .f32⟩
  | .hbm, ⟨60, _⟩ => ⟨S4x2048x1024, .f32⟩
  | .hbm, ⟨61, _⟩ => ⟨S4x2048x1024, .f32⟩
  | .hbm, ⟨62, _⟩ => ⟨S_, .f32⟩
  | .hbm, ⟨63, _⟩ => ⟨S4x2048x1024, .f32⟩
  | .hbm, ⟨64, _⟩ => ⟨S4x2048x1024, .f32⟩
  | .hbm, ⟨65, _⟩ => ⟨S_, .f32⟩
  | .hbm, ⟨66, _⟩ => ⟨S4x2048x1024, .f32⟩
  | .hbm, ⟨67, _⟩ => ⟨S4x2048x1024, .f32⟩
  | .hbm, ⟨68, _⟩ => ⟨S4x2048x1024, .f32⟩
  | .hbm, ⟨69, _⟩ => ⟨S4x2048x1024, .f32⟩
  | .hbm, ⟨70, _⟩ => ⟨S4x2048x1024, .bf16⟩
  | .hbm, ⟨71, _⟩ => ⟨S1024x2048, .bf16⟩
  | .hbm, ⟨72, _⟩ => ⟨S1024x2048, .bf16⟩
  | .hbm, ⟨73, _⟩ => ⟨S2048x2048, .bf16⟩
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_0 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v30 : Ref sig .tc := ⟨.hbm, 42, rfl⟩
abbrev main_cst_1 : Ref sig .tc := ⟨.hbm, 43, rfl⟩
abbrev main_v31 : Ref sig .tc := ⟨.hbm, 44, rfl⟩
abbrev main_cst_2 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_3 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_call1_v0 : Ref sig .tc := ⟨.hbm, 60, rfl⟩
abbrev main_call1_v1 : Ref sig .tc := ⟨.hbm, 61, rfl⟩
abbrev main_call1_cst : Ref sig .tc := ⟨.hbm, 62, rfl⟩
abbrev main_call1_v2 : Ref sig .tc := ⟨.hbm, 63, rfl⟩
abbrev main_call1_v3 : Ref sig .tc := ⟨.hbm, 64, rfl⟩
abbrev main_call1_cst_0 : Ref sig .tc := ⟨.hbm, 65, rfl⟩
abbrev main_call1_v4 : Ref sig .tc := ⟨.hbm, 66, rfl⟩
abbrev main_call1_v5 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩

abbrev nD : Nat := 1
abbrev τ : Topo := Topo.v7x

variable {F : FTy → Type} [FloatOps F]
-- ==== Out.lean ====
abbrev S8192x1024 : Shape := ⟨2, ![8192, 1024]⟩
abbrev S8192x9216 : Shape := ⟨2, ![8192, 9216]⟩
abbrev S4x2048x2048 : Shape := ⟨3, ![4, 2048, 2048]⟩
abbrev S1024x2048 : Shape := ⟨2, ![1024, 2048]⟩
abbrev S2048x2048 : Shape := ⟨2, ![2048, 2048]⟩
abbrev S2048 : Shape := ⟨1, ![2048]⟩
abbrev S8192x2048 : Shape := ⟨2, ![8192, 2048]⟩
abbrev S1x2048 : Shape := ⟨2, ![1, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 11
  | .vmem => 16
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x9216, .f32⟩
  | .hbm, ⟨3, _⟩ => ⟨S4x2048x2048, .f32⟩
  | .hbm, ⟨4, _⟩ => ⟨S1024x2048, .bf16⟩
  | .hbm, ⟨5, _⟩ => ⟨S1024x2048, .bf16⟩
  | .hbm, ⟨6, _⟩ => ⟨S2048x2048, .bf16⟩
  | .hbm, ⟨7, _⟩ => ⟨S2048, .f32⟩
  | .hbm, ⟨8, _⟩ => ⟨S8192x2048, .f32⟩
  | .hbm, ⟨9, _⟩ => ⟨S1x2048, .f32⟩
  | .hbm, ⟨10, _⟩ => ⟨S8192x2048, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1024x2048, .bf16⟩
  | .local _ .vmem, ⟨11, _⟩ => ⟨S1024x2048, .bf16⟩
  | .local _ .vmem, ⟨12, _⟩ => ⟨S2048x2048, .bf16⟩
  | .local _ .vmem, ⟨13, _⟩ => ⟨S1x2048, .f32⟩
  | .local _ .vmem, ⟨14, _⟩ => ⟨S256x2048, .f32⟩
  | .local _ .vmem, ⟨15, _⟩ => ⟨S256x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutReferenceIdeal.lean ====
abbrev S8192x1024 : Shape := ⟨2, ![8192, 1024]⟩
abbrev S8192x9216 : Shape := ⟨2, ![8192, 9216]⟩
abbrev S4x2048x2048 : Shape := ⟨3, ![4, 2048, 2048]⟩
abbrev S1024x2048 : Shape := ⟨2, ![1024, 2048]⟩
abbrev S2048x2048 : Shape := ⟨2, ![2048, 2048]⟩
abbrev S2048 : Shape := ⟨1, ![2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 55
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x9216, .f32⟩
  | .hbm, ⟨3, _⟩ => ⟨S4x2048x2048, .f32⟩
  | .hbm, ⟨4, _⟩ => ⟨S1024x2048, .bf16⟩
  | .hbm, ⟨5, _⟩ => ⟨S1024x2048, .bf16⟩
  | .hbm, ⟨6, _⟩ => ⟨S2048x2048, .bf16⟩
  | .hbm, ⟨7, _⟩ => ⟨S2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x1024, .f32⟩
  | .hbm, ⟨19, _⟩ => ⟨S1024x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S8192x1024, .f32⟩
  | .hbm, ⟨31, _⟩ => ⟨S1024x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S2048x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S8192x1, .f32⟩
  | .hbm, ⟨50, _⟩ => ⟨S8192x2048, .f32⟩
  | .hbm, ⟨51, _⟩ => ⟨S8192x2048, .f32⟩
  | .hbm, ⟨52, _⟩ => ⟨S1x2048, .f32⟩
  | .hbm, ⟨53, _⟩ => ⟨S8192x2048, .f32⟩
  | .hbm, ⟨54, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== NormQ.lean ====
abbrev S4x2048x2048 : Shape := ⟨3, ![4, 2048, 2048]⟩
abbrev S1x2048 : Shape := ⟨2, ![1, 2048]⟩
abbrev S1x2048x12488 : Shape := ⟨3, ![1, 2048, 12488]⟩
abbrev S8192x2048 : Shape := ⟨2, ![8192, 2048]⟩
abbrev S2048 : Shape := ⟨1, ![2048]⟩
abbrev S2048x12488 : Shape := ⟨2, ![2048, 12488]⟩
abbrev S12488x2048 : Shape := ⟨2, ![12488, 2048]⟩
abbrev S8192x1024 : Shape := ⟨2, ![8192, 1024]⟩
abbrev S1024x2048 : Shape := ⟨2, ![1024, 2048]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 10
  | .vmem => 9
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S1x2048x12488, .f32⟩
  | .hbm, ⟨3, _⟩ => ⟨S8192x2048, .f32⟩
  | .hbm, ⟨4, _⟩ => ⟨S2048, .f32⟩
  | .hbm, ⟨5, _⟩ => ⟨S1x2048, .f32⟩
  | .hbm, ⟨6, _⟩ => ⟨S2048x12488, .f32⟩
  | .hbm, ⟨7, _⟩ => ⟨S12488x2048, .f32⟩
  | .hbm, ⟨8, _⟩ => ⟨S8192x2048, .bf16⟩
  | .hbm, ⟨9, _⟩ => ⟨S8192x1024, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .f32⟩
  | .local _ .vmem, ⟨4, _⟩ => ⟨S1024x2048, .bf16⟩
  | .local _ .vmem, ⟨5, _⟩ => ⟨S1024x2048, .bf16⟩
  | .local _ .vmem, ⟨6, _⟩ => ⟨S1024x1024, .bf16⟩
  | .local _ .vmem, ⟨7, _⟩ => ⟨S1024x1024, .bf16⟩
  | .local _ .vmem, ⟨8, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormQIdeal.lean ====
variable {F : FTy → Type} [FloatOps F] [Named F]
def κ : String → Option EReal := fun
  | "q_scale" => some (((Real.sqrt 128)⁻¹ * (Real.log 2)⁻¹ : ℝ) : EReal)
  | _ => none
-- ==== NormQReferenceIdeal.lean ====
abbrev S4x2048x2048 : Shape := ⟨3, ![4, 2048, 2048]⟩
abbrev S1x2048 : Shape := ⟨2, ![1, 2048]⟩
abbrev S1x2048x12488 : Shape := ⟨3, ![1, 2048, 12488]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S2048 : Shape := ⟨1, ![2048]⟩
abbrev S2048x12488 : Shape := ⟨2, ![2048, 12488]⟩
abbrev S8192x12488 : Shape := ⟨2, ![8192, 12488]⟩
abbrev S8192x1024 : Shape := ⟨2, ![8192, 1024]⟩

abbrev nBuf : Space → Nat
  | .hbm => 34
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S1x2048x12488, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S2048x12488, .f32⟩
  | .hbm, ⟨22, _⟩ => ⟨S8192x12488, .f32⟩
  | .hbm, ⟨23, _⟩ => ⟨S8192x1024, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S8192x2048, .bf16⟩
  | .hbm, ⟨33, _⟩ => ⟨S8192x1024, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Proj.lean ====
abbrev S8192x2048 : Shape := ⟨2, ![8192, 2048]⟩
abbrev S1x2048x12488 : Shape := ⟨3, ![1, 2048, 12488]⟩
abbrev S2048x12488 : Shape := ⟨2, ![2048, 12488]⟩
abbrev S12488x2048 : Shape := ⟨2, ![12488, 2048]⟩
abbrev S96x2048 : Shape := ⟨2, ![96, 2048]⟩
abbrev S_ : Shape := ⟨0, ![]⟩
abbrev S128x2048 : Shape := ⟨2, ![128, 2048]⟩
abbrev S8x2048 : Shape := ⟨2, ![8, 2048]⟩
abbrev S104x2048 : Shape := ⟨2, ![104, 2048]⟩
abbrev S256x2048 : Shape := ⟨2, ![256, 2048]⟩
abbrev S8192x9216 : Shape := ⟨2, ![8192, 9216]⟩
abbrev S8192x256 : Shape := ⟨2, ![8192, 256]⟩
abbrev S1024x2048 : Shape := ⟨2, ![1024, 2048]⟩
abbrev S1024x1024 : Shape := ⟨2, ![1024, 1024]⟩
abbrev S1024x256 : Shape := ⟨2, ![1024, 256]⟩

abbrev nBuf : Space → Nat
  | .hbm => 18
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S1x2048x12488, .f32⟩
  | .hbm, ⟨2, _⟩ => ⟨S2048x12488, .f32⟩
  | .hbm, ⟨3, _⟩ => ⟨S12488x2048, .f32⟩
  | .hbm, ⟨4, _⟩ => ⟨S96x2048, .f32⟩
  | .hbm, ⟨5, _⟩ => ⟨S_, .i32⟩
  | .hbm, ⟨6, _⟩ => ⟨S_, .f32⟩
  | .hbm, ⟨7, _⟩ => ⟨S128x2048, .f32⟩
  | .hbm, ⟨8, _⟩ => ⟨S96x2048, .f32⟩
  | .hbm, ⟨9, _⟩ => ⟨S8x2048, .f32⟩
  | .hbm, ⟨10, _⟩ => ⟨S104x2048, .f32⟩
  | .hbm, ⟨11, _⟩ => ⟨S_, .i32⟩
  | .hbm, ⟨12, _⟩ => ⟨S_, .f32⟩
  | .hbm, ⟨13, _⟩ => ⟨S128x2048, .f32⟩
  | .hbm, ⟨14, _⟩ => ⟨S256x2048, .f32⟩
  | .hbm, ⟨15, _⟩ => ⟨S8192x2048, .bf16⟩
  | .hbm, ⟨16, _⟩ => ⟨S8192x9216, .f32⟩
  | .hbm, ⟨17, _⟩ => ⟨S8192x256, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .f32⟩
  | .local _ .vmem, ⟨3, _⟩ => ⟨S1024x2048, .f32⟩
  | .local _ .vmem, ⟨4, _⟩ => ⟨S256x2048, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x256, .f32⟩
  | .local _ .vmem, ⟨10, _⟩ => ⟨S1024x256, .f32⟩
  | .local _ .vmem, ⟨11, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_call1_v0 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![12, 8], ![false, false]⟩

def k0_mult1 (i : grid0.Coords) : BitVec 32 :=
  let arg0 : BitVec 32 := BitVec.ofNat 32 (i 0).val
  let c7_i32 : BitVec 32 := 7#32
  let v18 : BitVec 1 := Scalar.cmpi .sge arg0 c7_i32
  let c513_i32 : BitVec 32 := 513#32
  let c10_i32_9 : BitVec 32 := 10#32
  let v19 : BitVec 32 := Scalar.minsi arg0 c10_i32_9
  let c7_i32_10 : BitVec 32 := 7#32
  let v20 : BitVec 32 := Scalar.subi v19 c7_i32_10
  let c128_i32_11 : BitVec 32 := 128#32
  let v21 : BitVec 32 := Scalar.muli v20 c128_i32_11
  let v22 : BitVec 32 := Scalar.addi c513_i32 v21
  let c6_i32 : BitVec 32 := 6#32
  let v12 : BitVec 1 := Scalar.cmpi .sge arg0 c6_i32
  let c384_i32 : BitVec 32 := 384#32
  let c10_i32_6 : BitVec 32 := 10#32
  let v13 : BitVec 32 := Scalar.minsi arg0 c10_i32_6
  let c6_i32_7 : BitVec 32 := 6#32
  let v14 : BitVec 32 := Scalar.subi v13 c6_i32_7
  let c128_i32_8 : BitVec 32 := 128#32
  let v15 : BitVec 32 := Scalar.muli v14 c128_i32_8
  let v16 : BitVec 32 := Scalar.addi c384_i32 v15
  let c2_i32 : BitVec 32 := 2#32
  let v6 : BitVec 1 := Scalar.cmpi .sge arg0 c2_i32
  let c1049_i32 : BitVec 32 := 1049#32
  let c10_i32_3 : BitVec 32 := 10#32
  let v7 : BitVec 32 := Scalar.minsi arg0 c10_i32_3
  let c2_i32_4 : BitVec 32 := 2#32
  let v8 : BitVec 32 := Scalar.subi v7 c2_i32_4
  let c128_i32_5 : BitVec 32 := 128#32
  let v9 : BitVec 32 := Scalar.muli v8 c128_i32_5
  let v10 : BitVec 32 := Scalar.addi c1049_i32 v9
  let c0_i32 : BitVec 32 := 0#32
  let v0 : BitVec 1 := Scalar.cmpi .sge arg0 c0_i32
  let c128_i32_1 : BitVec 32 := 128#32
  let c10_i32 : BitVec 32 := 10#32
  let v1 : BitVec 32 := Scalar.minsi arg0 c10_i32
  let c0_i32_0 : BitVec 32 := 0#32
  let v2 : BitVec 32 := Scalar.subi v1 c0_i32_0
  let c128_i32 : BitVec 32 := 128#32
  let v3 : BitVec 32 := Scalar.muli v2 c128_i32
  let v4 : BitVec 32 := Scalar.addi c128_i32_1 v3
  let c0_i32_2 : BitVec 32 := 0#32
  let v5 : BitVec 32 := Scalar.select v0 v4 c0_i32_2
  let v11 : BitVec 32 := Scalar.select v6 v10 v5
  let v17 : BitVec 32 := Scalar.select v12 v16 v11
  let v23 : BitVec 32 := Scalar.select v18 v22 v17
  let c8_i32 : BitVec 32 := 8#32
  let v24 : BitVec 32 := Scalar.muli v23 c8_i32
  v24
def k0_cond4 (i : grid0.Coords) : BitVec 1 :=
  let arg0 : BitVec 32 := BitVec.ofNat 32 (i 0).val
  let c2_i32 : BitVec 32 := 2#32
  let v3 : BitVec 1 := Scalar.cmpi .slt arg0 c2_i32
  let v4 : BitVec 32 := Scalar.extui v3
  let c0_i32_1 : BitVec 32 := 0#32
  let v5 : BitVec 1 := Scalar.cmpi .ne v4 c0_i32_1
  v5

def k0_cond5 (i : grid0.Coords) : BitVec 1 :=
  let arg0 : BitVec 32 := BitVec.ofNat 32 (i 0).val
  let c2_i32_2 : BitVec 32 := 2#32
  let v6 : BitVec 1 := Scalar.cmpi .sge arg0 c2_i32_2
  let c11_i32 : BitVec 32 := 11#32
  let v7 : BitVec 1 := Scalar.cmpi .slt arg0 c11_i32
  let v8 : BitVec 1 := Scalar.andi v6 v7
  let v9 : BitVec 32 := Scalar.extui v8
  let c0_i32_3 : BitVec 32 := 0#32
  let v10 : BitVec 1 := Scalar.cmpi .ne v9 c0_i32_3
  v10

def k0_cond6 (i : grid0.Coords) : BitVec 1 :=
  let arg0 : BitVec 32 := BitVec.ofNat 32 (i 0).val
  let c11_i32_4 : BitVec 32 := 11#32
  let v11 : BitVec 1 := Scalar.cmpi .eq arg0 c11_i32_4
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sge arg0 c0_i32
  let c10_i32 : BitVec 32 := 10#32
  let v1 : BitVec 32 := Scalar.minsi arg0 c10_i32
  let c0_i32_0 : BitVec 32 := 0#32
  let v2 : BitVec 32 := Scalar.subi v1 c0_i32_0
  let c128_i32 : BitVec 32 := 128#32
  let v3 : BitVec 32 := Scalar.muli v2 c128_i32
  let c128_i32_1 : BitVec 32 := 128#32
  let v4 : BitVec 32 := Scalar.addi c128_i32_1 v3
  let c0_i32_2 : BitVec 32 := 0#32
  let v5 : BitVec 32 := Scalar.select v0 v4 c0_i32_2
  let c2_i32 : BitVec 32 := 2#32
  let v6 : BitVec 1 := Scalar.cmpi .sge arg0 c2_i32
  let c10_i32_3 : BitVec 32 := 10#32
  let v7 : BitVec 32 := Scalar.minsi arg0 c10_i32_3
  let c2_i32_4 : BitVec 32 := 2#32
  let v8 : BitVec 32 := Scalar.subi v7 c2_i32_4
  let c128_i32_5 : BitVec 32 := 128#32
  let v9 : BitVec 32 := Scalar.muli v8 c128_i32_5
  let c1049_i32 : BitVec 32 := 1049#32
  let v10 : BitVec 32 := Scalar.addi c1049_i32 v9
  let v11 : BitVec 32 := Scalar.select v6 v10 v5
  let c6_i32 : BitVec 32 := 6#32
  let v12 : BitVec 1 := Scalar.cmpi .sge arg0 c6_i32
  let c10_i32_6 : BitVec 32 := 10#32
  let v13 : BitVec 32 := Scalar.minsi arg0 c10_i32_6
  let c6_i32_7 : BitVec 32 := 6#32
  let v14 : BitVec 32 := Scalar.subi v13 c6_i32_7
  let c128_i32_8 : BitVec 32 := 128#32
  let v15 : BitVec 32 := Scalar.muli v14 c128_i32_8
  let c384_i32 : BitVec 32 := 384#32
  let v16 : BitVec 32 := Scalar.addi c384_i32 v15
  let v17 : BitVec 32 := Scalar.select v12 v16 v11
  let c7_i32 : BitVec 32 := 7#32
  let v18 : BitVec 1 := Scalar.cmpi .sge arg0 c7_i32
  let c10_i32_9 : BitVec 32 := 10#32
  let v19 : BitVec 32 := Scalar.minsi arg0 c10_i32_9
  let c7_i32_10 : BitVec 32 := 7#32
  let v20 : BitVec 32 := Scalar.subi v19 c7_i32_10
  let c128_i32_11 : BitVec 32 := 128#32
  let v21 : BitVec 32 := Scalar.muli v20 c128_i32_11
  let c513_i32 : BitVec 32 := 513#32
  let v22 : BitVec 32 := Scalar.addi c513_i32 v21
  let v23 : BitVec 32 := Scalar.select v18 v22 v17
  let c8_i32 : BitVec 32 := 8#32
  let v24 : BitVec 32 := Scalar.muli v23 c8_i32
  let v25 : BitVec 32 := v24
  let c0_i32_12 : BitVec 32 := 0#32
  let c0_i32_13 : BitVec 32 := 0#32
  ![v25.toNat, c0_i32_12.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c7_i32 : BitVec 32 := 7#32
  let v1 : BitVec 32 := Scalar.select v0 arg1 c7_i32
  let c1_i32 : BitVec 32 := 1#32
  let v2 : BitVec 32 := Scalar.minsi arg0 c1_i32
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c11_i32 : BitVec 32 := 11#32
  let v1 : BitVec 1 := Scalar.cmpi .slt arg0 c11_i32
  let c7_i32 : BitVec 32 := 7#32
  let v2 : BitVec 32 := Scalar.select v1 arg1 c7_i32
  let c0_i32 : BitVec 32 := 0#32
  let v3 : BitVec 32 := Scalar.select v0 c0_i32 v2
  let c2_i32_0 : BitVec 32 := 2#32
  let v4 : BitVec 32 := Scalar.subi arg0 c2_i32_0
  let c0_i32_1 : BitVec 32 := 0#32
  let c8_i32 : BitVec 32 := 8#32
  let v5 : BitVec 32 := Scalar.maxsi c0_i32_1 v4
  let v6 : BitVec 32 := Scalar.minsi c8_i32 v5
  let c0_i32_2 : BitVec 32 := 0#32
  ![v3.toNat, v6.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 1 := Scalar.cmpi .eq arg0 c11_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ProjReferenceIdeal.lean ====
abbrev S8192x2048 : Shape := ⟨2, ![8192, 2048]⟩
abbrev S1x2048x12488 : Shape := ⟨3, ![1, 2048, 12488]⟩
abbrev S2048x12488 : Shape := ⟨2, ![2048, 12488]⟩
abbrev S8192x12488 : Shape := ⟨2, ![8192, 12488]⟩
abbrev S8192x4104 : Shape := ⟨2, ![8192, 4104]⟩
abbrev S8192x4288 : Shape := ⟨2, ![8192, 4288]⟩
abbrev S8192x1024 : Shape := ⟨2, ![8192, 1024]⟩
abbrev S8192x8 : Shape := ⟨2, ![8192, 8]⟩
abbrev S8192x4096 : Shape := ⟨2, ![8192, 4096]⟩
abbrev S8192x96 : Shape := ⟨2, ![8192, 96]⟩
abbrev S8192x9216 : Shape := ⟨2, ![8192, 9216]⟩
abbrev S_ : Shape := ⟨0, ![]⟩
abbrev S8192x32 : Shape := ⟨2, ![8192, 32]⟩
abbrev S8192x24 : Shape := ⟨2, ![8192, 24]⟩
abbrev S8192x256 : Shape := ⟨2, ![8192, 256]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x12488, .f32⟩
  | .hbm, ⟨2, _⟩ => ⟨S8192x2048, .f32⟩
  | .hbm, ⟨3, _⟩ => ⟨S2048x12488, .f32⟩
  | .hbm, ⟨4, _⟩ => ⟨S8192x12488, .f32⟩
  | .hbm, ⟨5, _⟩ => ⟨S8192x4104, .f32⟩
  | .hbm, ⟨6, _⟩ => ⟨S8192x4288, .f32⟩
  | .hbm, ⟨7, _⟩ => ⟨S8192x2048, .f32⟩
  | .hbm, ⟨8, _⟩ => ⟨S8192x2048, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x8, .f32⟩
  | .hbm, ⟨14, _⟩ => ⟨S8192x4096, .f32⟩
  | .hbm, ⟨15, _⟩ => ⟨S8192x96, .f32⟩
  | .hbm, ⟨16, _⟩ => ⟨S8192x96, .f32⟩
  | .hbm, ⟨17, _⟩ => ⟨S8192x2048, .f32⟩
  | .hbm, ⟨18, _⟩ => ⟨S8192x9216, .f32⟩
  | .hbm, ⟨19, _⟩ => ⟨S_, .f32⟩
  | .hbm, ⟨20, _⟩ => ⟨S8192x32, .f32⟩
  | .hbm, ⟨21, _⟩ => ⟨S_, .f32⟩
  | .hbm, ⟨22, _⟩ => ⟨S8192x24, .f32⟩
  | .hbm, ⟨23, _⟩ => ⟨S8192x256, .f32⟩
  | .hbm, ⟨24, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_cst : Ref sig .tc := ⟨.hbm, 19, rfl⟩
abbrev main_v17 : Ref sig .tc := ⟨.hbm, 20, rfl⟩
abbrev main_cst_0 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩

abbrev nD : Nat := 1
abbrev τ : Topo := Topo.v7x

variable {F : FTy → Type} [FloatOps F]
-- ==== Gate.lean ====
abbrev S8192x256 : Shape := ⟨2, ![8192, 256]⟩
abbrev S1x8 : Shape := ⟨2, ![1, 8]⟩
abbrev S8 : Shape := ⟨1, ![8]⟩
abbrev S_ : Shape := ⟨0, ![]⟩
abbrev S1x128 : Shape := ⟨2, ![1, 128]⟩
abbrev S8192x128 : Shape := ⟨2, ![8192, 128]⟩
abbrev S1024x128 : Shape := ⟨2, ![1024, 128]⟩
abbrev S8x128 : Shape := ⟨2, ![8, 128]⟩
abbrev S256x256 : Shape := ⟨2, ![256, 256]⟩
abbrev S256x128 : Shape := ⟨2, ![256, 128]⟩

abbrev nBuf : Space → Nat
  | .hbm => 8
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S1x8, .f32⟩
  | .hbm, ⟨2, _⟩ => ⟨S8, .f32⟩
  | .hbm, ⟨3, _⟩ => ⟨S1x8, .f32⟩
  | .hbm, ⟨4, _⟩ => ⟨S_, .i32⟩
  | .hbm, ⟨5, _⟩ => ⟨S_, .f32⟩
  | .hbm, ⟨6, _⟩ => ⟨S1x128, .f32⟩
  | .hbm, ⟨7, _⟩ => ⟨S8192x128, .f32⟩
  | .local _ .vmem, ⟨0, _⟩ => ⟨S1024x128, .f32⟩
  | .local _ .vmem, ⟨1, _⟩ => ⟨S1024x128, .f32⟩
  | .local _ .vmem, ⟨2, _⟩ => ⟨S1x128, .f32⟩
  | .local _ .vmem, ⟨3, _⟩ => ⟨S1024x128, .f32⟩
  | .local _ .vmem, ⟨4, _⟩ => ⟨S1024x128, .f32⟩
  | .local _ .vmem, ⟨5, _⟩ => ⟨S8x128, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c1_i32 : BitVec 32 := 1#32
  let c0_i32 : BitVec 32 := 0#32
  ![v1.toNat, c1_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateReferenceIdeal.lean ====
abbrev S8192x256 : Shape := ⟨2, ![8192, 256]⟩
abbrev S1x8 : Shape := ⟨2, ![1, 8]⟩
abbrev S8 : Shape := ⟨1, ![8]⟩
abbrev S_ : Shape := ⟨0, ![]⟩
abbrev S1x128 : Shape := ⟨2, ![1, 128]⟩
abbrev S4x2048x256 : Shape := ⟨3, ![4, 2048, 256]⟩
abbrev S4x2048x128 : Shape := ⟨3, ![4, 2048, 128]⟩
abbrev S1x1x128 : Shape := ⟨3, ![1, 1, 128]⟩
abbrev S8192x128 : Shape := ⟨2, ![8192, 128]⟩

abbrev nBuf : Space → Nat
  | .hbm => 32
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S1x8, .f32⟩
  | .hbm, ⟨2, _⟩ => ⟨S8, .f32⟩
  | .hbm, ⟨3, _⟩ => ⟨S1x8, .f32⟩
  | .hbm, ⟨4, _⟩ => ⟨S_, .i32⟩
  | .hbm, ⟨5, _⟩ => ⟨S_, .f32⟩
  | .hbm, ⟨6, _⟩ => ⟨S1x128, .f32⟩
  | .hbm, ⟨7, _⟩ => ⟨S4x2048x256, .f32⟩
  | .hbm, ⟨8, _⟩ => ⟨S4x2048x128, .f32⟩
  | .hbm, ⟨9, _⟩ => ⟨S1x1x128, .f32⟩
  | .hbm, ⟨10, _⟩ => ⟨S4x2048x128, .f32⟩
  | .hbm, ⟨11, _⟩ => ⟨S4x2048x128, .f32⟩
  | .hbm, ⟨12, _⟩ => ⟨S4x2048x128, .f32⟩
  | .hbm, ⟨13, _⟩ => ⟨S_, .f32⟩
  | .hbm, ⟨14, _⟩ => ⟨S4x2048x128, .f32⟩
  | .hbm, ⟨15, _⟩ => ⟨S4x2048x128, .f32⟩
  | .hbm, ⟨16, _⟩ => ⟨S4x2048x128, .f32⟩
  | .hbm, ⟨17, _⟩ => ⟨S4x2048x128, .f32⟩
  | .hbm, ⟨18, _⟩ => ⟨S4x2048x128, .i1⟩
  | .hbm, ⟨19, _⟩ => ⟨S4x2048x128, .f32⟩
  | .hbm, ⟨20, _⟩ => ⟨S4x2048x128, .f32⟩
  | .hbm, ⟨21, _⟩ => ⟨S4x2048x128, .f32⟩
  | .hbm, ⟨22, _⟩ => ⟨S4x2048x128, .f32⟩
  | .hbm, ⟨23, _⟩ => ⟨S4x2048x128, .f32⟩
  | .hbm, ⟨24, _⟩ => ⟨S4x2048x128, .f32⟩
  | .hbm, ⟨25, _⟩ => ⟨S4x2048x128, .f32⟩
  | .hbm, ⟨26, _⟩ => ⟨S4x2048x128, .f32⟩
  | .hbm, ⟨27, _⟩ => ⟨S4x2048x128, .f32⟩
  | .hbm, ⟨28, _⟩ => ⟨S_, .f32⟩
  | .hbm, ⟨29, _⟩ => ⟨S_, .f32⟩
  | .hbm, ⟨30, _⟩ => ⟨S4x2048x128, .f32⟩
  | .hbm, ⟨31, _⟩ => ⟨S8192x128, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call1_v0 : Ref sig .tc := ⟨.hbm, 12, rfl⟩
abbrev main_call1_call0_cst : Ref sig .tc := ⟨.hbm, 13, rfl⟩
abbrev main_call1_call0_v0 : Ref sig .tc := ⟨.hbm, 14, rfl⟩
abbrev main_call1_call0_v1 : Ref sig .tc := ⟨.hbm, 15, rfl⟩
abbrev main_call1_call0_v2 : Ref sig .tc := ⟨.hbm, 16, rfl⟩
abbrev main_call1_call0_v3 : Ref sig .tc := ⟨.hbm, 17, rfl⟩
abbrev main_call1_call0_v4 : Ref sig .tc := ⟨.hbm, 18, rfl⟩
abbrev main_call1_call0_v5 : Ref sig .tc := ⟨.hbm, 19, rfl⟩
abbrev main_call1_call0_v6 : Ref sig .tc := ⟨.hbm, 20, rfl⟩
abbrev main_call1_call0_v7 : Ref sig .tc := ⟨.hbm, 21, rfl⟩
abbrev main_call1_call0_v8 : Ref sig .tc := ⟨.hbm, 22, rfl⟩
abbrev main_call1_call0_v9 : Ref sig .tc := ⟨.hbm, 23, rfl⟩
abbrev main_call1_call0_v10 : Ref sig .tc := ⟨.hbm, 24, rfl⟩
abbrev main_call1_call0_v11 : Ref sig .tc := ⟨.hbm, 25, rfl⟩
abbrev main_call1_v1 : Ref sig .tc := ⟨.hbm, 26, rfl⟩
abbrev main_v8 : Ref sig .tc := ⟨.hbm, 27, rfl⟩
abbrev main_call2_call0_cst : Ref sig .tc := ⟨.hbm, 28, rfl⟩
abbrev main_call2_call0_v0 : Ref sig .tc := ⟨.hbm, 29, rfl⟩
abbrev main_v9 : Ref sig .tc := ⟨.hbm, 30, rfl⟩
abbrev main_v10 : Ref sig .tc := ⟨.hbm, 31, rfl⟩

abbrev nD : Nat := 1
abbrev τ : Topo := Topo.v7x

variable {F : FTy → Type} [FloatOps F]
-- ==== Proof.FoxChain.lean ====
module

public import proofs.«01_k».proof.Proof.Gen.FoxIdeal.Value
public import Idealize.ShloMosaic.Lib.Pipeline.ValueKit
public import Idealize.ShloMosaic.Lib.Pipeline.ReadBack

/-! The attention kernel's body at one grid point, read off as a chain of tile steps: for each group of 256 queries,
    the tiles of 256 keys up to the diagonal one, each folded into a running maximum, a running sum of weights and a
    running weighted sum of values. -/

@[expose] public section

set_option maxRecDepth 16384

noncomputable section

namespace Cert.FoxIdeal.Chain

open Cert.FoxIdeal Cert.FoxIdeal.Gen Idealize.ShloMosaic Idealize.ShloMosaic.TcCoe Idealize.SL.Sem

/-- Rows `256 t` to `256 t + 255` of a block lie in it. -/
theorem rows_inb (t : ℕ) (h : t < 8) : ∀ a, (![0, 256 * t, 0] : Fin 3 → Nat) a + S1x256x128.size a ≤ S1x2048x128.size a := by
  intro a
  match a with
  | ⟨0, _⟩ => exact Nat.le_refl 1
  | ⟨1, _⟩ => show 256 * t + 256 ≤ 2048; omega
  | ⟨2, _⟩ => exact Nat.le_refl 128

/-- … and of a column of 2048 numbers. -/
theorem col_inb (t : ℕ) (h : t < 8) : ∀ a, (![256 * t, 0] : Fin 2 → Nat) a + S256x1.size a ≤ S2048x1.size a := by
  intro a
  match a with
  | ⟨0, _⟩ => show 256 * t + 256 ≤ 2048; omega
  | ⟨1, _⟩ => exact Nat.le_refl 1

/-- Tile `t` of a block: its rows `256 t` to `256 t + 255`. -/
def rows {φ : FTy} (x : FVec Ideal S1x2048x128 φ) (t : ℕ) (h : t < 8) : FVec Ideal S1x256x128 φ :=
  fun j => x ((Rect.unit (s := S1x2048x128) ![0, 256 * t, 0] S1x256x128.size (rows_inb t h)).idx j)

/-- Tile `t` of the column of decays. -/
def col (x : FVec Ideal S2048x1 .f32) (t : ℕ) (h : t < 8) : FVec Ideal S256x1 .f32 :=
  fun j => x ((Rect.unit (s := S2048x1) ![256 * t, 0] S256x1.size (col_inb t h)).idx j)

/-- The scores of a tile of keys against a group of queries, less the keys' decays. -/
def score (k q : FVec Ideal S1x256x128 .bf16) (d : FVec Ideal S256x1 .f32) : FVec Ideal S256x256 .f32 :=
  subf (matmul dot_S256x128_S256x128_S256x256_1_1_0_0_n_n none (shapeCast S256x128 k shapeCasts_S1x256x128_S256x128)
      (shapeCast S256x128 q shapeCasts_S1x256x128_S256x128) (constant S256x256 .f32 0x00000000#32))
    (broadcastTo S256x256 d broadcasts_S256x1_S256x256)

/-- The diagonal tile's scores: a key after the query scores nothing. -/
def causal (o : BitVec 32) (s : FVec Ideal S256x256 .f32) : FVec Ideal S256x256 .f32 :=
  select (cmpi .sgt (addi (iota .tc S256x256 32 [0] iota_S256x256_d0_w32) (broadcast S256x256 o))
      (addi (iota .tc S256x256 32 [1] iota_S256x256_d1_w32) (broadcast S256x256 o)))
    (broadcast S256x256 (FloatOps.ofBits .f32 0xFF800000#32)) s

/-- Each query's greatest score in a tile. -/
def top (s : FVec Ideal S256x256 .f32) : FVec Ideal S1x256 .f32 :=
  shapeCast S1x256 (multiReduction .maximumf [0] S256 s 0xFF800000#32 reduces_S256x256_S256 (.inl rfl) rfl) shapeCasts_S256_S1x256

/-- A tile of values with a row of ones under it, weighted by the scores' powers of two over the running maximum. -/
def weighted (v : FVec Ideal S1x136x256 .bf16) (s : FVec Ideal S256x256 .f32) (μ : FVec Ideal S1x256 .f32) : FVec Ideal S136x256 .f32 :=
  matmul dot_S136x256_S256x256_S136x256_1_0_0_1_n_n none (shapeCast S136x256 v shapeCasts_S1x136x256_S136x256)
    (exp2 (truncf .bf16 (subf s (broadcastTo S256x256 μ broadcasts_S1x256_S256x256)) bitsLt_bf16_f32))
    (constant S136x256 .f32 0x00000000#32)

/-- The weighted sum's rows for the values. -/
def vals (w : FVec Ideal S136x256 .f32) : FVec Ideal S128x256 .f32 := extractStridedSlice S128x256 ![0, 0] w slices_S136x256_o0_0_S128x256

/-- The weighted sum's row for the ones. -/
def ones (w : FVec Ideal S136x256 .f32) : FVec Ideal S1x256 .f32 := extractStridedSlice S1x256 ![128, 0] w slices_S136x256_o128_0_S1x256

/-- What a group of queries carries from tile to tile. -/
structure State where
  /-- the running maximum -/
  μ : FVec Ideal S1x256 .f32
  /-- the running sum of weights -/
  l : FVec Ideal S1x256 .f32
  /-- the running weighted sum of values -/
  acc : FVec Ideal S1x128x256 .f32

/-- The first tile. -/
def first (v : FVec Ideal S1x136x256 .bf16) (s : FVec Ideal S256x256 .f32) : State where
  μ := top s
  l := ones (weighted v s (top s))
  acc := shapeCast S1x128x256 (vals (weighted v s (top s))) shapeCasts_S128x256_S1x128x256

/-- A further tile: what was carried is rescaled to the new maximum, and the tile's part is added. -/
def step (v : FVec Ideal S1x136x256 .bf16) (s : FVec Ideal S256x256 .f32) (p : State) : State where
  μ := maximumf p.μ (top s)
  l := addf (mulf (exp2 (subf p.μ (maximumf p.μ (top s)))) p.l) (ones (weighted v s (maximumf p.μ (top s))))
  acc := shapeCast S1x128x256
    (addf (mulf (broadcastTo S128x256 (exp2 (subf p.μ (maximumf p.μ (top s)))) broadcasts_S1x256_S128x256)
        (shapeCast S128x256 p.acc shapeCasts_S1x128x256_S128x256))
      (vals (weighted v s (maximumf p.μ (top s))))) shapeCasts_S128x256_S1x128x256

/-- A group's result: the weighted sum over the sum of weights, times the gate. -/
def finish (z : FVec Ideal S1x256x128 .f32) (p : State) : FVec Ideal S1x256x128 .bf16 :=
  shapeCast S1x256x128 (truncf .bf16
    (mulf (transpose S256x128 [1, 0] (divf (shapeCast S128x256 p.acc shapeCasts_S1x128x256_S128x256)
        (broadcastTo S128x256 p.l broadcasts_S1x256_S128x256)) transposes_S128x256_p1_0_S256x128)
      (mulf (shapeCast S256x128 z shapeCasts_S1x256x128_S256x128)
        (divf (broadcast S256x128 (FloatOps.ofBits .f32 0x3F800000#32))
          (addf (broadcast S256x128 (FloatOps.ofBits .f32 0x3F800000#32))
            (exp (subf (broadcast S256x128 (FloatOps.ofBits .f32 0x00000000#32)) (shapeCast S256x128 z shapeCasts_S1x256x128_S256x128)))))))
    bitsLt_bf16_f32) shapeCasts_S256x128_S1x256x128

/-- The scratch tile of values, as a load finds it: 128 rows of values over eight more. -/
def stacked (A : FVec Ideal S1x8x256 .bf16) (B : FVec Ideal S1x128x256 .bf16) : FVec Ideal S1x136x256 .bf16 := fun j =>
  if h : (j 1).val < 128 then B (ix3 (0 : Fin 1) (⟨(j 1).val, h⟩ : Fin 128) (⟨(j 2).val, (j 2).isLt⟩ : Fin 256))
  else A (ix3 (0 : Fin 1) (⟨(j 1).val - 128, by have : (j 1).val < 136 := (j 1).isLt; omega⟩ : Fin 8)
    (⟨(j 2).val, (j 2).isLt⟩ : Fin 256))

/-- A tile of values transposed, over eight rows of ones. -/
def valueTile (v : FVec Ideal S1x256x128 .bf16) : FVec Ideal S1x136x256 .bf16 :=
  stacked (shapeCast S1x8x256 (broadcast S8x256 (FloatOps.ofBits (F := Ideal) .bf16 0x3F80#16)) shapeCasts_S8x256_S1x8x256)
    (shapeCast S1x128x256 (transpose S128x256 [1, 0] (shapeCast S256x128 v shapeCasts_S1x256x128_S256x128) transposes_S256x128_p1_0_S128x256)
      shapeCasts_S128x256_S1x128x256)

variable (i : grid0.Coords) (x0 x1 x2 : FVec Ideal S1x2048x128 .bf16) (x3 x4 : FVec Ideal S1x2048x128 .f32)

/-- The scores of tile `t` against group `g`. -/
def tileScore (g : ℕ) (hg : g < 8) (t : ℕ) (ht : t < 8) : FVec Ideal S256x256 .f32 :=
  score (rows x1 t ht) (rows x0 g hg) (col (k0_pay5 i x3) t ht)

/-- What group `g` carries after the tiles 0 to `t`, all before the diagonal. -/
def chain (g : ℕ) (hg : g < 8) : (t : ℕ) → t < 8 → State
  | 0, h => first (valueTile (rows x2 0 h)) (tileScore i x0 x1 x3 g hg 0 h)
  | t + 1, h => step (valueTile (rows x2 (t + 1) h)) (tileScore i x0 x1 x3 g hg (t + 1) h) (chain g hg t (Nat.lt_of_succ_lt h))

/-- What group `g` holds at its end, the diagonal tile included. -/
def last : (g : ℕ) → g < 8 → State
  | 0, h => first (valueTile (rows x2 0 h)) (causal 0#32 (tileScore i x0 x1 x3 0 h 0 h))
  | g + 1, h => step (valueTile (rows x2 (g + 1) h)) (causal (BitVec.ofNat 32 (256 * (g + 1))) (tileScore i x0 x1 x3 (g + 1) h (g + 1) h))
      (chain i x0 x1 x2 x3 (g + 1) h g (Nat.lt_of_succ_lt h))

/-- What group `g` stores. -/
def result (g : ℕ) (h : g < 8) : FVec Ideal S1x256x128 .bf16 := finish (rows x4 g h) (last i x0 x1 x2 x3 g h)

end Cert.FoxIdeal.Chain
-- ==== Proof.FoxBody.lean ====
module

public import proofs.«01_k».proof.Proof.FoxChain

/-! The pieces the attention kernel's run stores into its output block are the results of the eight groups of queries. -/

@[expose] public section

set_option maxRecDepth 16384

noncomputable section

namespace Cert.FoxIdeal.Chain

open Cert.FoxIdeal Cert.FoxIdeal.Gen Idealize.ShloMosaic Idealize.ShloMosaic.TcCoe Idealize.SL.Sem

/-- A load of one tile of the scratch values, the last two stores under it being that tile's ones and its values. -/
theorem readCov_stacked (t : ℕ) (A : FVec Ideal S1x8x256 .bf16) (B : FVec Ideal S1x128x256 .bf16)
    (h1 : ∀ a, (![t, 128, 0] : Fin 3 → Nat) a + (![1, 8, 256] : Fin 3 → Nat) a ≤ S8x136x256.size a)
    (h2 : ∀ a, (![t, 0, 0] : Fin 3 → Nat) a + (![1, 128, 256] : Fin 3 → Nat) a ≤ S8x136x256.size a)
    (h3 : ∀ a, (![t, 0, 0] : Fin 3 → Nat) a + (![1, 136, 256] : Fin 3 → Nat) a ≤ S8x136x256.size a)
    (L : List (View.Piece (Elt Ideal) S8x136x256 .bf16)) :
    View.readCov (View.whole cc0_scratch2)
      ((⟨Rect.unit (s := S8x136x256) ![t, 128, 0] ![1, 8, 256] h1, A⟩
        :: ⟨Rect.unit (s := S8x136x256) ![t, 0, 0] ![1, 128, 256] h2, B⟩ :: L : List (View.Piece (Elt Ideal) S8x136x256 .bf16)))
      (Rect.unit (s := S8x136x256) ![t, 0, 0] ![1, 136, 256] h3).toLoadRect = stacked A B := by
  rw [View.readCov_eq_canon']
  funext j
  by_cases hj : (j 1).val < 128
  · rw [View.canon_cons_of_not_mem]
    · refine Eq.trans ?_ (View.canon_cons_emb (Rect.unit (s := S8x136x256) ![t, 0, 0] ![1, 128, 256] h2) B L
        (ix3 (0 : Fin 1) (⟨(j 1).val, hj⟩ : Fin 128) (⟨(j 2).val, (j 2).isLt⟩ : Fin 256))) |>.trans ?_
      · congr 1
        funext a
        match a with
        | ⟨0, _⟩ => exact Fin.ext (by show t + 1 * (j 0).val = t + 1 * 0; have : (j 0).val < 1 := (j 0).isLt; omega)
        | ⟨1, _⟩ => rfl
        | ⟨2, _⟩ => rfl
      · simp only [stacked, hj, dif_pos]
    · intro h
      have := ((Rect.mem_set_unit (s := S8x136x256) (inb := h1)).mp h (1 : Fin 3)).1
      have h' : 128 ≤ 0 + 1 * (j 1).val := this
      omega
  · have hlt : (j 1).val < 136 := (j 1).isLt
    refine Eq.trans ?_ (View.canon_cons_emb (Rect.unit (s := S8x136x256) ![t, 128, 0] ![1, 8, 256] h1) A (⟨Rect.unit (s := S8x136x256) ![t, 0, 0] ![1, 128, 256] h2, B⟩ :: L)
        (ix3 (0 : Fin 1) (⟨(j 1).val - 128, by omega⟩ : Fin 8) (⟨(j 2).val, (j 2).isLt⟩ : Fin 256))) |>.trans ?_
    · congr 1
      funext a
      match a with
      | ⟨0, _⟩ => exact Fin.ext (by show t + 1 * (j 0).val = t + 1 * 0; have : (j 0).val < 1 := (j 0).isLt; omega)
      | ⟨1, _⟩ => exact Fin.ext (by show 0 + 1 * (j 1).val = 128 + 1 * ((j 1).val - 128); omega)
      | ⟨2, _⟩ => rfl
    · simp only [stacked, hj, dif_neg, not_false_eq_true]

variable (c : Dev nD) (i : grid0.Coords)
  (a0 a1 a2 : Memref sig .tc .vmem S1x2048x128 .bf16) (h0 : a0.IsWhole) (h1 : a1.IsWhole) (h2 : a2.IsWhole)
  (a3 a4 : Memref sig .tc .vmem S1x2048x128 .f32) (h3 : a3.IsWhole) (h4 : a4.IsWhole)
  (x0 x1 x2 : FVec Ideal S1x2048x128 .bf16) (x3 x4 : FVec Ideal S1x2048x128 .f32)

theorem group0 : kernelRun0_A.sl.v294 c i a0 h0 a1 h1 a2 h2 a3 h3 a4 h4 scM0_0 scM0_1 scM0_2 x0 x1 x2 x3 x4
    = result i x0 x1 x2 x3 x4 0 (by decide) := by
  sl_unfold_words
  simp (disch := decide) only [↓ View.readCov_skip, ↓ View.readCov_cons_toLoadRect, ↓ View.readCov_fill, View.readAt_eq_ld,
    h0.read_unread, h1.read_unread, h2.read_unread, h3.read_unread, h4.read_unread, ↓ readCov_stacked, k0_pay6, View.ld_unit_lit]
  simp only [result, last, first, step, chain, tileScore, finish]
  rfl

theorem group1 : kernelRun0_A.sl.v508 c i a0 h0 a1 h1 a2 h2 a3 h3 a4 h4 scM0_0 scM0_1 scM0_2 x0 x1 x2 x3 x4
    = result i x0 x1 x2 x3 x4 1 (by decide) := by
  sl_unfold_words
  simp (disch := decide) only [↓ View.readCov_skip, ↓ View.readCov_cons_toLoadRect, ↓ View.readCov_fill, View.readAt_eq_ld,
    h0.read_unread, h1.read_unread, h2.read_unread, h3.read_unread, h4.read_unread, ↓ readCov_stacked, k0_pay6, View.ld_unit_lit]
  simp only [result, last, first, step, chain, tileScore, finish]
  rfl

theorem group2 : kernelRun0_A.sl.v739 c i a0 h0 a1 h1 a2 h2 a3 h3 a4 h4 scM0_0 scM0_1 scM0_2 x0 x1 x2 x3 x4
    = result i x0 x1 x2 x3 x4 2 (by decide) := by
  sl_unfold_words
  simp (disch := decide) only [↓ View.readCov_skip, ↓ View.readCov_cons_toLoadRect, ↓ View.readCov_fill, View.readAt_eq_ld,
    h0.read_unread, h1.read_unread, h2.read_unread, h3.read_unread, h4.read_unread, ↓ readCov_stacked, k0_pay6, View.ld_unit_lit]
  simp only [result, last, first, step, chain, tileScore, finish]
  rfl

theorem group3 : kernelRun0_A.sl.v938 c i a0 h0 a1 h1 a2 h2 a3 h3 a4 h4 scM0_0 scM0_1 scM0_2 x0 x1 x2 x3 x4
    = result i x0 x1 x2 x3 x4 3 (by decide) := by
  sl_unfold_words
  simp (disch := decide) only [↓ View.readCov_skip, ↓ View.readCov_cons_toLoadRect, ↓ View.readCov_fill, View.readAt_eq_ld,
    h0.read_unread, h1.read_unread, h2.read_unread, h3.read_unread, h4.read_unread, ↓ readCov_stacked, k0_pay6, View.ld_unit_lit]
  simp only [result, last, first, step, chain, tileScore, finish]
  rfl

theorem group4 : kernelRun0_A.sl.v1162 c i a0 h0 a1 h1 a2 h2 a3 h3 a4 h4 scM0_0 scM0_1 scM0_2 x0 x1 x2 x3 x4
    = result i x0 x1 x2 x3 x4 4 (by decide) := by
  sl_unfold_words
  simp (disch := decide) only [↓ View.readCov_skip, ↓ View.readCov_cons_toLoadRect, ↓ View.readCov_fill, View.readAt_eq_ld,
    h0.read_unread, h1.read_unread, h2.read_unread, h3.read_unread, h4.read_unread, ↓ readCov_stacked, k0_pay6, View.ld_unit_lit]
  simp only [result, last, first, step, chain, tileScore, finish]
  rfl

theorem group5 : kernelRun0_A.sl.v1272 c i a0 h0 a1 h1 a2 h2 a3 h3 a4 h4 scM0_0 scM0_1 scM0_2 x0 x1 x2 x3 x4
    = result i x0 x1 x2 x3 x4 5 (by decide) := by
  sl_unfold_words
  simp (disch := decide) only [↓ View.readCov_skip, ↓ View.readCov_cons_toLoadRect, ↓ View.readCov_fill, View.readAt_eq_ld,
    h0.read_unread, h1.read_unread, h2.read_unread, h3.read_unread, h4.read_unread, ↓ readCov_stacked, k0_pay6, View.ld_unit_lit]
  simp only [result, last, first, step, chain, tileScore, finish]
  rfl

theorem group6 : kernelRun0_A.sl.v1350 c i a0 h0 a1 h1 a2 h2 a3 h3 a4 h4 scM0_0 scM0_1 scM0_2 x0 x1 x2 x3 x4
    = result i x0 x1 x2 x3 x4 6 (by decide) := by
  sl_unfold_words
  simp (disch := decide) only [↓ View.readCov_skip, ↓ View.readCov_cons_toLoadRect, ↓ View.readCov_fill, View.readAt_eq_ld,
    h0.read_unread, h1.read_unread, h2.read_unread, h3.read_unread, h4.read_unread, ↓ readCov_stacked, k0_pay6, View.ld_unit_lit]
  simp only [result, last, first, step, chain, tileScore, finish]
  rfl

theorem group7 : k0_pay1 (kernelRun0_A.sl.r_1 c a4 h4 x4) (kernelRun0_A.sl.r_2 c i a0 h0 a1 h1 a2 h2 a3 h3 scM0_0 scM0_1 scM0_2 x0 x1 x2 x3) (kernelRun0_A.sl.r_3 c a4 h4 x4)
    = result i x0 x1 x2 x3 x4 7 (by decide) := by
  sl_unfold_words
  simp (disch := decide) only [↓ View.readCov_skip, ↓ View.readCov_cons_toLoadRect, ↓ View.readCov_fill, View.readAt_eq_ld,
    k0_pay1, h0.read_unread, h1.read_unread, h2.read_unread, h3.read_unread, h4.read_unread, ↓ readCov_stacked, k0_pay6, View.ld_unit_lit]
  simp only [result, last, first, step, chain, tileScore, finish]
  rfl

/-- The block of results: rows `256 g` to `256 g + 255` are group `g`'s. -/
def block (i : grid0.Coords) (x0 x1 x2 : FVec Ideal S1x2048x128 .bf16) (x3 x4 : FVec Ideal S1x2048x128 .f32) : FVec Ideal S1x2048x128 .bf16 := fun j =>
  result i x0 x1 x2 x3 x4 ((j 1).val / 256) (by have : (j 1).val < 2048 := (j 1).isLt; omega)
    (ix3 (0 : Fin 1) (⟨(j 1).val % 256, Nat.mod_lt _ (by decide)⟩ : Fin 256) (⟨(j 2).val, (j 2).isLt⟩ : Fin 128))

theorem block_at (g : ℕ) (hg : g < 8) (j : S1x2048x128.Idx) (y : S1x256x128.Idx) (h1 : (j 1).val = 256 * g + (y 1).val)
    (h2 : (j 2).val = (y 2).val) : block i x0 x1 x2 x3 x4 j = result i x0 x1 x2 x3 x4 g hg y := by
  have hy : (y 1).val < 256 := (y 1).isLt
  have hg' : g = (j 1).val / 256 := by omega
  subst hg'
  unfold block
  congr 1
  funext a
  match a with
  | ⟨0, _⟩ => exact Fin.ext (by have : (y 0).val < 1 := (y 0).isLt; show 0 = (y 0).val; omega)
  | ⟨1, _⟩ => exact Fin.ext (by show (j 1).val % 256 = (y 1).val; omega)
  | ⟨2, _⟩ => exact Fin.ext h2

variable (m : (ℓ : Loc nD τ sig) → Buf (Elt Ideal) ℓ)

theorem outs8 (t : Fin cfg0.N) (y : S1x2048x128.Idx) : (outsAt0 m c t).1 y
    = block (grid0.coords t) (iblk m c 0 t) (iblk m c 1 t) (iblk m c 2 t) (iblk m c 3 t) (iblk m c 4 t) y := by
  unfold outsAt0
  dsimp only
  unfold out0_A_8
  rw [View.read_writes_eq_canon _ _ _ (cover0_A_8 c _ _ _ _ _ _ _ _ _ _ _ _ _ _ _ _ _ _ _ _ _ _ _ _ _ _ _ _ _ _ _ _ _ _ _ _ _ _ _)]
  unfold kernelRun0_A
  dsimp only
  canon_tiles x h
  · rw [block_at (g := 7) (hg := by decide) (j := y) (y := x) (h1 := h1.trans (by omega)) (h2 := h2)]
    exact congrFun (group7 ..) x
  · rw [block_at (g := 6) (hg := by decide) (j := y) (y := x) (h1 := h1.trans (by omega)) (h2 := h2)]
    exact congrFun (group6 ..) x
  · rw [block_at (g := 5) (hg := by decide) (j := y) (y := x) (h1 := h1.trans (by omega)) (h2 := h2)]
    exact congrFun (group5 ..) x
  · rw [block_at (g := 4) (hg := by decide) (j := y) (y := x) (h1 := h1.trans (by omega)) (h2 := h2)]
    exact congrFun (group4 ..) x
  · rw [block_at (g := 3) (hg := by decide) (j := y) (y := x) (h1 := h1.trans (by omega)) (h2 := h2)]
    exact congrFun (group3 ..) x
  · rw [block_at (g := 2) (hg := by decide) (j := y) (y := x) (h1 := h1.trans (by omega)) (h2 := h2)]
    exact congrFun (group2 ..) x
  · rw [block_at (g := 1) (hg := by decide) (j := y) (y := x) (h1 := h1.trans (by omega)) (h2 := h2)]
    exact congrFun (group1 ..) x
  · rw [block_at (g := 0) (hg := by decide) (j := y) (y := x) (h1 := h1.trans (by omega)) (h2 := h2)]
    exact congrFun (group0 ..) x

end Cert.FoxIdeal.Chain
-- ==== Proof.FoxMath.lean ====
module

public import Idealize.ShloMosaic.PureOps.Ideal.Laws

/-! Online softmax over the extended reals: weighted sums kept over a running maximum, tile by tile, and their quotient.
    The proofs use of the maximum only that it is a real number. -/

@[expose] public section

noncomputable section

namespace Cert.FoxMath

open Idealize.ShloMosaic

/-- The weight of a score: its power of two; a masked score has none. -/
def wt (s : EReal) : ℝ := match s with
  | ⊥ => 0
  | ⊤ => 0
  | (r : ℝ) => Real.rpow 2 r

theorem wt_nonneg (s : EReal) : 0 ≤ wt s := by
  induction s with
  | bot => exact le_refl _
  | top => exact le_refl _
  | coe r => exact (Real.rpow_pos_of_pos (by norm_num) r).le

theorem wt_coe (r : ℝ) : wt (r : EReal) = (2 : ℝ) ^ r := rfl

theorem wt_bot : wt ⊥ = 0 := rfl

theorem two_pos (r : ℝ) : 0 < (2 : ℝ) ^ r := Real.rpow_pos_of_pos (by norm_num) r

/-- A score's power of two over a real maximum. -/
theorem exp2_sub (s : EReal) (hs : s ≠ ⊤) (m : ℝ) : Ideal.exp2 (s - (m : EReal)) = ((wt s * (2 : ℝ) ^ (-m) : ℝ) : EReal) := by
  induction s with
  | bot => rw [wt_bot, zero_mul, EReal.bot_sub]; rfl
  | top => exact absurd rfl hs
  | coe r =>
    rw [← EReal.coe_sub]
    show ((Real.rpow 2 (r - m) : ℝ) : EReal) = _
    rw [wt_coe, ← Real.rpow_add (by norm_num)]
    rfl

theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A nonnegative real factor goes into a sum of extended reals. -/
theorem mul_sum {ι : Type} (S : Finset ι) (c : ℝ) (hc : 0 ≤ c) (f : ι → EReal) :
    (c : EReal) * ∑ i ∈ S, f i = ∑ i ∈ S, (c : EReal) * f i := by
  classical
  induction S using Finset.induction_on with
  | empty => simp
  | insert a S ha ih =>
    rw [Finset.sum_insert ha, Finset.sum_insert ha,
      EReal.left_distrib_of_nonneg_of_ne_top (EReal.coe_nonneg.mpr hc) (EReal.coe_ne_top c), ih]

/-- What is carried after the first `T` tiles. -/
def Carried (w : ℕ → Fin 256 → ℝ) (v : ℕ → Fin 256 → EReal) (T : ℕ) (μ l acc : EReal) : Prop :=
  ∃ m : ℝ, μ = (m : EReal) ∧ l = (((∑ t ∈ Finset.range T, ∑ k, w t k) * (2 : ℝ) ^ (-m) : ℝ) : EReal) ∧
    acc = ∑ t ∈ Finset.range T, ∑ k, v t k * ((w t k * (2 : ℝ) ^ (-m) : ℝ) : EReal)

variable {w : ℕ → Fin 256 → ℝ} {v : ℕ → Fin 256 → EReal}

theorem tile_weights (s : Fin 256 → EReal) (hs : ∀ k, s k ≠ ⊤) (m : ℝ) :
    ∑ k, (1 : EReal) * Ideal.exp2 (s k - (m : EReal)) = (((∑ k, wt (s k)) * (2 : ℝ) ^ (-m) : ℝ) : EReal) := by
  rw [Finset.sum_mul, coe_sum]
  exact Finset.sum_congr rfl fun k _ => by rw [one_mul, exp2_sub _ (hs k)]

theorem Carried.first {s : Fin 256 → EReal} (hs : ∀ k, s k ≠ ⊤) (hw : ∀ k, w 0 k = wt (s k)) {M : EReal} (hM : ∃ m : ℝ, M = (m : EReal)) :
    Carried w v 1 M (∑ k, (1 : EReal) * Ideal.exp2 (s k - M)) (∑ k, v 0 k * Ideal.exp2 (s k - M)) := by
  obtain ⟨m, rfl⟩ := hM
  refine ⟨m, rfl, ?_, ?_⟩
  · rw [tile_weights s hs, Finset.sum_range_one, Finset.sum_congr rfl fun k _ => (hw k).symm]
  · rw [Finset.sum_range_one]
    exact Finset.sum_congr rfl fun k _ => by rw [exp2_sub _ (hs k), hw]

theorem exp2_scale (m m' : ℝ) : Ideal.exp2 ((m : EReal) - (m' : EReal)) = (((2 : ℝ) ^ (m - m') : ℝ) : EReal) := by
  rw [← EReal.coe_sub]; rfl

theorem Carried.step {T : ℕ} {μ l acc : EReal} (h : Carried w v T μ l acc) {s : Fin 256 → EReal} (hs : ∀ k, s k ≠ ⊤)
    (hw : ∀ k, w T k = wt (s k)) {M : EReal} (hM : ∃ m : ℝ, M = (m : EReal)) :
    Carried w v (T + 1) (max μ M) (Ideal.exp2 (μ - max μ M) * l + ∑ k, (1 : EReal) * Ideal.exp2 (s k - max μ M))
      (Ideal.exp2 (μ - max μ M) * acc + ∑ k, v T k * Ideal.exp2 (s k - max μ M)) := by
  obtain ⟨m, rfl, rfl, rfl⟩ := h
  obtain ⟨M, rfl⟩ := hM
  rw [show max (m : EReal) (M : EReal) = ((max m M : ℝ) : EReal) from (EReal.coe_strictMono.monotone.map_max).symm]
  generalize max m M = m'
  have e : (2 : ℝ) ^ (m - m') * (2 : ℝ) ^ (-m) = (2 : ℝ) ^ (-m') := by
    rw [← Real.rpow_add (by norm_num)]; congr 1; ring
  refine ⟨m', rfl, ?_, ?_⟩
  · rw [tile_weights s hs, exp2_scale, ← EReal.coe_mul, ← EReal.coe_add, Finset.sum_range_succ, add_mul,
      Finset.sum_congr rfl fun k _ => hw k, ← e]
    congr 1; ring
  · rw [exp2_scale, mul_sum _ _ (two_pos _).le, Finset.sum_range_succ]
    congr 1
    · refine Finset.sum_congr rfl fun t _ => ?_
      rw [mul_sum _ _ (two_pos _).le]
      refine Finset.sum_congr rfl fun k _ => ?_
      rw [mul_left_comm, ← EReal.coe_mul, ← e]
      congr 2; ring
    · exact Finset.sum_congr rfl fun k _ => by rw [exp2_sub _ (hs k), hw]

/-- The quotient of the carried sums does not depend on the maximum. -/
theorem Carried.quotient {T : ℕ} {μ l acc : EReal} (h : Carried w v T μ l acc) (hw : 0 < ∑ t ∈ Finset.range T, ∑ k, w t k) :
    Ideal.div acc l = ∑ t ∈ Finset.range T, ∑ k, v t k * ((w t k / ∑ t ∈ Finset.range T, ∑ k, w t k : ℝ) : EReal) := by
  obtain ⟨m, rfl, rfl, rfl⟩ := h
  generalize hW : ∑ t ∈ Finset.range T, ∑ k, w t k = W at *
  have hp : 0 < W * (2 : ℝ) ^ (-m) := mul_pos hw (two_pos _)
  rw [Ideal.div, if_neg (by exact_mod_cast hp.ne'), ← EReal.coe_inv, mul_comm, mul_sum _ _ (inv_nonneg.mpr hp.le)]
  refine Finset.sum_congr rfl fun t _ => ?_
  rw [mul_sum _ _ (inv_nonneg.mpr hp.le)]
  refine Finset.sum_congr rfl fun k _ => ?_
  rw [mul_left_comm, ← EReal.coe_mul]
  congr 2
  have := (two_pos (-m)).ne'
  field_simp

/-- A greatest element of finitely many, none of them ⊤ and one of them real, is real. -/
theorem fold_max_real {n : ℕ} (s : Fin n → EReal) (hs : ∀ k, s k ≠ ⊤) (hr : ∃ k, s k ≠ ⊥) :
    ∃ m : ℝ, Finset.fold max (⊥ : EReal) s Finset.univ = (m : EReal) := by
  have h1 : Finset.fold max (⊥ : EReal) s Finset.univ ≠ ⊤ := by
    apply ne_of_lt
    rw [Finset.fold_max_lt]
    exact ⟨bot_lt_top, fun k _ => lt_top_iff_ne_top.mpr (hs k)⟩
  have h2 : Finset.fold max (⊥ : EReal) s Finset.univ ≠ ⊥ := by
    obtain ⟨k, hk⟩ := hr
    apply ne_of_gt
    rw [Finset.lt_fold_max]
    exact Or.inr ⟨k, Finset.mem_univ k, bot_lt_iff_ne_bot.mpr hk⟩
  exact ⟨_, (EReal.coe_toReal h1 h2).symm⟩

end Cert.FoxMath
-- ==== Proof.FoxPoint.lean ====
module

public import proofs.«01_k».proof.Proof.FoxBody
public import proofs.«01_k».proof.Proof.FoxMath
public import Idealize.ShloMosaic.Lib.WordCmp

/-! The attention kernel's steps read at an index. -/

@[expose] public section

set_option maxRecDepth 16384

noncomputable section

namespace Cert.FoxIdeal.Chain

open Cert.FoxIdeal Cert.FoxIdeal.Gen Idealize.ShloMosaic Idealize.ShloMosaic.TcCoe Idealize.SL.Sem

/-- The mask's constant is ⊥. -/
theorem neg_top : Ideal.ofBits FTy.f32 4286578688#32 = ⊥ := by
  simp [Ideal.ofBits, Ideal.ieee]

/-- A score: the product of key and query less the key's decay. -/
theorem score_apply (k q : FVec Ideal S1x256x128 .bf16) (d : FVec Ideal S256x1 .f32) (a r : Fin 256) :
    score k q d (ix2 a r) = (∑ x : Fin 128, k (ix3 (0 : Fin 1) a x) * q (ix3 (0 : Fin 1) r x)) - d (ix2 a (0 : Fin 1)) := by
  pointwise [score]

/-- On the diagonal tile a key after the query scores ⊥. -/
theorem causal_apply (g : ℕ) (hg : g < 8) (s : FVec Ideal S256x256 .f32) (a r : Fin 256) :
    causal (BitVec.ofNat 32 (256 * g)) s (ix2 a r) = if r < a then ⊥ else s (ix2 a r) := by
  pointwise [causal]
  have h : ∀ b : Fin 256, IntOp.addi (BitVec.ofNat 32 b.val) (BitVec.ofNat 32 (256 * g)) = BitVec.ofNat 32 (b.val + 256 * g) := fun b => by
    show BitVec.ofNat 32 b.val + BitVec.ofNat 32 (256 * g) = _
    rw [← BitVec.ofNat_add]
  rw [h, h, WordCmp.cmpi_sgt_ofNat (by have := a.isLt; norm_num; omega) (by have := r.isLt; norm_num; omega)]
  by_cases hra : r < a
  · have h' : r.val < a.val := hra
    rw [if_pos hra, decide_eq_true (by omega : r.val + 256 * g < a.val + 256 * g)]
    exact neg_top
  · have h' : ¬ r.val < a.val := hra
    rw [if_neg hra, decide_eq_false (by omega : ¬ r.val + 256 * g < a.val + 256 * g)]
    rfl

/-- A query's greatest score in a tile. -/
theorem top_apply (s : FVec Ideal S256x256 .f32) (r : Fin 256) :
    top s (ix2 (0 : Fin 1) r) = Finset.fold max (⊥ : EReal) (fun a : Fin 256 => s (ix2 a r)) Finset.univ := by
  pointwise [top]
  rw [neg_top]

theorem valueTile_vals (v : FVec Ideal S1x256x128 .bf16) (a : Fin 256) (d : Fin 128) (h : d.val < 136) :
    valueTile v (ix3 (0 : Fin 1) (⟨d.val, h⟩ : Fin 136) a) = v (ix3 (0 : Fin 1) a d) := by
  pointwise [valueTile, stacked]

theorem valueTile_ones (v : FVec Ideal S1x256x128 .bf16) (a : Fin 256) :
    valueTile v (ix3 (0 : Fin 1) (128 : Fin 136) a) = 1 := by
  pointwise [valueTile, stacked]

/-- The weighted sum of values. -/
theorem vals_apply (v : FVec Ideal S1x256x128 .bf16) (s : FVec Ideal S256x256 .f32) (μ : FVec Ideal S1x256 .f32) (d : Fin 128) (r : Fin 256) :
    vals (weighted (valueTile v) s μ) (ix2 d r)
      = ∑ a : Fin 256, v (ix3 (0 : Fin 1) a d) * Ideal.exp2 (s (ix2 a r) - μ (ix2 (0 : Fin 1) r)) := by
  pointwise [vals, weighted]
  exact Finset.sum_congr rfl fun a _ => by rw [valueTile_vals]; rfl

/-- The sum of weights. -/
theorem ones_apply (v : FVec Ideal S1x256x128 .bf16) (s : FVec Ideal S256x256 .f32) (μ : FVec Ideal S1x256 .f32) (r : Fin 256) :
    ones (weighted (valueTile v) s μ) (ix2 (0 : Fin 1) r)
      = ∑ a : Fin 256, (1 : EReal) * Ideal.exp2 (s (ix2 a r) - μ (ix2 (0 : Fin 1) r)) := by
  pointwise [ones, weighted]
  exact Finset.sum_congr rfl fun a _ => by rw [valueTile_ones, one_mul]; rfl

theorem decay_apply (i : grid0.Coords) (x : FVec Ideal S1x2048x128 .f32) (j : Fin 2048) (l : Fin 128) (hl : l.val = 96 + (i 1).val) :
    k0_pay5 (F := Ideal) i x (ix2 j (0 : Fin 1)) = x (ix3 (0 : Fin 1) j l) * (((Real.log 2)⁻¹ : ℝ) : EReal) := by
  pointwise [k0_pay5]
  have hi : (i 1).val < 32 := lt_of_lt_of_le (i 1).isLt (by decide)
  have hs : Scalar.addi (96#32) (BitVec.ofNat 32 (i 1).val) = BitVec.ofNat 32 (96 + (i 1).val) := by
    show BitVec.ofNat 32 96 + BitVec.ofNat 32 (i 1).val = _
    rw [← BitVec.ofNat_add]
  rw [hs, Finset.sum_eq_single l]
  · rw [hl, WordCmp.cmpi_eq_ofNat (by norm_num; omega) (by norm_num; omega), decide_eq_true rfl,
      IdealRules.named_const.ideal_named_scalar _ _ _ _ rfl]
    rfl
  · intro b _ hb
    have hb' : b.val ≠ 96 + (i 1).val := fun h => hb (Fin.ext (h.trans hl.symm))
    rw [WordCmp.cmpi_eq_ofNat (by have := b.isLt; norm_num; omega) (by norm_num; omega), decide_eq_false hb']
    rfl
  · intro h; exact absurd (Finset.mem_univ l) h

theorem finish_apply (z : FVec Ideal S1x256x128 .f32) (p : State) (r : Fin 256) (d : Fin 128) :
    finish z p (ix3 (0 : Fin 1) r d) = Ideal.div (p.acc (ix3 (0 : Fin 1) d r)) (p.l (ix2 (0 : Fin 1) r))
      * (z (ix3 (0 : Fin 1) r d) * Ideal.div 1 (1 + Ideal.exp (0 - z (ix3 (0 : Fin 1) r d)))) := by
  pointwise [finish]

end Cert.FoxIdeal.Chain
-- ==== Proof.FoxCarry.lean ====
module

public import proofs.«01_k».proof.Proof.FoxPoint

/-! The attention kernel's running softmax, for one query row and one value lane. -/

@[expose] public section

set_option maxRecDepth 16384

noncomputable section

namespace Cert.FoxIdeal.Chain

open Cert.FoxIdeal Cert.FoxIdeal.Gen Idealize.ShloMosaic Idealize.ShloMosaic.TcCoe Idealize.SL.Sem Cert.FoxMath

theorem rows_at {φ : FTy} (x : FVec Ideal S1x2048x128 φ) (t : ℕ) (h : t < 8) (a : Fin 256) (d : Fin 128) :
    rows x t h (ix3 (0 : Fin 1) a d) = x (ix3 (0 : Fin 1) (⟨256 * t + a.val, by omega⟩ : Fin 2048) d) := by
  unfold rows
  congr 1
  funext b
  match b with
  | ⟨0, _⟩ => exact Fin.ext rfl
  | ⟨1, _⟩ => exact Fin.ext (by show 256 * t + 1 * a.val = 256 * t + a.val; rw [one_mul])
  | ⟨2, _⟩ => exact Fin.ext (by show 0 + 1 * d.val = d.val; omega)

theorem col_at (x : FVec Ideal S2048x1 .f32) (t : ℕ) (h : t < 8) (a : Fin 256) :
    col x t h (ix2 a (0 : Fin 1)) = x (ix2 (⟨256 * t + a.val, by omega⟩ : Fin 2048) (0 : Fin 1)) := by
  unfold col
  congr 1
  funext b
  match b with
  | ⟨0, _⟩ => exact Fin.ext (by show 256 * t + 1 * a.val = 256 * t + a.val; rw [one_mul])
  | ⟨1, _⟩ => exact Fin.ext rfl

theorem first_top (v : FVec Ideal S1x136x256 .bf16) (s : FVec Ideal S256x256 .f32) : (first v s).μ = top s := by
  unfold first
  dsimp only

theorem first_μ (v : FVec Ideal S1x136x256 .bf16) (s : FVec Ideal S256x256 .f32) (r : Fin 256) :
    (first v s).μ (ix2 (0 : Fin 1) r) = Finset.fold max (⊥ : EReal) (fun a : Fin 256 => s (ix2 a r)) Finset.univ := by
  rw [first_top, top_apply]

theorem first_l (v : FVec Ideal S1x256x128 .bf16) (s : FVec Ideal S256x256 .f32) (r : Fin 256) :
    (first (valueTile v) s).l (ix2 (0 : Fin 1) r)
      = ∑ a : Fin 256, (1 : EReal) * Ideal.exp2 (s (ix2 a r) - Finset.fold max (⊥ : EReal) (fun a : Fin 256 => s (ix2 a r)) Finset.univ) := by
  rw [← top_apply, ← ones_apply v]
  rfl

theorem first_acc (v : FVec Ideal S1x256x128 .bf16) (s : FVec Ideal S256x256 .f32) (d : Fin 128) (r : Fin 256) :
    (first (valueTile v) s).acc (ix3 (0 : Fin 1) d r) = ∑ a : Fin 256, v (ix3 (0 : Fin 1) a d)
      * Ideal.exp2 (s (ix2 a r) - Finset.fold max (⊥ : EReal) (fun a : Fin 256 => s (ix2 a r)) Finset.univ) := by
  rw [← top_apply, ← vals_apply]
  pointwise [first]

theorem step_μ (v : FVec Ideal S1x136x256 .bf16) (s : FVec Ideal S256x256 .f32) (p : State) (r : Fin 256) :
    (step v s p).μ (ix2 (0 : Fin 1) r)
      = max (p.μ (ix2 (0 : Fin 1) r)) (Finset.fold max (⊥ : EReal) (fun a : Fin 256 => s (ix2 a r)) Finset.univ) := by
  rw [← top_apply]
  rfl

theorem step_l (v : FVec Ideal S1x256x128 .bf16) (s : FVec Ideal S256x256 .f32) (p : State) (r : Fin 256) :
    (step (valueTile v) s p).l (ix2 (0 : Fin 1) r)
      = Ideal.exp2 (p.μ (ix2 (0 : Fin 1) r) - (step (valueTile v) s p).μ (ix2 (0 : Fin 1) r)) * p.l (ix2 (0 : Fin 1) r)
        + ∑ a : Fin 256, (1 : EReal) * Ideal.exp2 (s (ix2 a r) - (step (valueTile v) s p).μ (ix2 (0 : Fin 1) r)) := by
  rw [← ones_apply v]
  rfl

theorem step_acc (v : FVec Ideal S1x256x128 .bf16) (s : FVec Ideal S256x256 .f32) (p : State) (d : Fin 128) (r : Fin 256) :
    (step (valueTile v) s p).acc (ix3 (0 : Fin 1) d r)
      = Ideal.exp2 (p.μ (ix2 (0 : Fin 1) r) - (step (valueTile v) s p).μ (ix2 (0 : Fin 1) r)) * p.acc (ix3 (0 : Fin 1) d r)
        + ∑ a : Fin 256, v (ix3 (0 : Fin 1) a d) * Ideal.exp2 (s (ix2 a r) - (step (valueTile v) s p).μ (ix2 (0 : Fin 1) r)) := by
  rw [← vals_apply]
  pointwise [step]
  rfl

variable (i : grid0.Coords) (x0 x1 x2 : FVec Ideal S1x2048x128 .bf16) (x3 x4 : FVec Ideal S1x2048x128 .f32)

/-- The score of a query and a key, in powers of two. -/
def sco (r j : Fin 2048) : EReal :=
  (∑ x : Fin 128, x1 (ix3 (0 : Fin 1) j x) * x0 (ix3 (0 : Fin 1) r x)) - k0_pay5 (F := Ideal) i x3 (ix2 j (0 : Fin 1))

theorem tileScore_at (g : ℕ) (hg : g < 8) (t : ℕ) (ht : t < 8) (a r : Fin 256) :
    tileScore i x0 x1 x3 g hg t ht (ix2 a r)
      = sco i x0 x1 x3 (⟨256 * g + r.val, by omega⟩ : Fin 2048) (⟨256 * t + a.val, by omega⟩ : Fin 2048) := by
  unfold tileScore sco
  rw [score_apply, col_at]
  simp only [rows_at]

/-- The weights of a query's row, tile by tile: the keys after the query weigh nothing. -/
def W (σ : Fin 2048 → Fin 2048 → ℝ) (r : Fin 2048) (t : ℕ) (k : Fin 256) : ℝ :=
  if h : t < 8 ∧ 256 * t + k.val ≤ r.val then wt (σ r ⟨256 * t + k.val, by have := r.isLt; omega⟩ : EReal) else 0

/-- A lane of the values, tile by tile. -/
def V (d : Fin 128) (t : ℕ) (k : Fin 256) : EReal :=
  if h : t < 8 then x2 (ix3 (0 : Fin 1) (⟨256 * t + k.val, by omega⟩ : Fin 2048) d) else 0

theorem V_rows (d : Fin 128) (t : ℕ) (h : t < 8) (k : Fin 256) : rows x2 t h (ix3 (0 : Fin 1) k d) = V x2 d t k := by
  rw [rows_at, V, dif_pos h]

variable (σ : Fin 2048 → Fin 2048 → ℝ) (hσ : ∀ r j, sco i x0 x1 x3 r j = (σ r j : EReal))

include hσ in
theorem chain_carried (g : ℕ) (hg : g < 8) (r : Fin 256) (d : Fin 128) : ∀ (t : ℕ) (ht : t < 8) (_ : t < g),
    Carried (W σ (⟨256 * g + r.val, by omega⟩ : Fin 2048)) (V x2 d) (t + 1)
      ((chain i x0 x1 x2 x3 g hg t ht).μ (ix2 (0 : Fin 1) r)) ((chain i x0 x1 x2 x3 g hg t ht).l (ix2 (0 : Fin 1) r))
      ((chain i x0 x1 x2 x3 g hg t ht).acc (ix3 (0 : Fin 1) d r)) := by
  have hs : ∀ (t : ℕ) (ht : t < 8) (a : Fin 256), tileScore i x0 x1 x3 g hg t ht (ix2 a r)
      = (σ (⟨256 * g + r.val, by omega⟩ : Fin 2048) (⟨256 * t + a.val, by omega⟩ : Fin 2048) : EReal) :=
    fun t ht a => (tileScore_at i x0 x1 x3 g hg t ht a r).trans (hσ _ _)
  have hw : ∀ (t : ℕ) (ht : t < 8) (_ : t < g) (k : Fin 256),
      W σ (⟨256 * g + r.val, by omega⟩ : Fin 2048) t k = wt (tileScore i x0 x1 x3 g hg t ht (ix2 k r)) := fun t ht htg k => by
    rw [hs, W, dif_pos ⟨ht, by show 256 * t + k.val ≤ 256 * g + r.val; have := k.isLt; omega⟩]
  have hM : ∀ (t : ℕ) (ht : t < 8), ∃ m : ℝ, Finset.fold max (⊥ : EReal)
      (fun a : Fin 256 => tileScore i x0 x1 x3 g hg t ht (ix2 a r)) Finset.univ = (m : EReal) := fun t ht =>
    fold_max_real _ (fun k => by rw [hs]; exact EReal.coe_ne_top _) ⟨0, by rw [hs]; exact EReal.coe_ne_bot _⟩
  intro t
  induction t with
  | zero =>
    intro ht htg
    show Carried _ _ 1 ((first _ _).μ _) ((first _ _).l _) ((first _ _).acc _)
    rw [first_μ, first_l, first_acc]
    simp only [V_rows]
    exact Carried.first (fun k => by rw [hs]; exact EReal.coe_ne_top _) (hw 0 ht htg) (hM 0 ht)
  | succ t ih =>
    intro ht htg
    have h := ih (Nat.lt_of_succ_lt ht) (Nat.lt_of_succ_lt htg)
    show Carried _ _ (t + 1 + 1) ((step _ _ _).μ _) ((step _ _ _).l _) ((step _ _ _).acc _)
    rw [step_l, step_acc, step_μ]
    simp only [V_rows]
    exact h.step (fun k => by rw [hs]; exact EReal.coe_ne_top _) (hw (t + 1) ht htg) (hM (t + 1) ht)

include hσ in
theorem last_carried (g : ℕ) (hg : g < 8) (r : Fin 256) (d : Fin 128) :
    Carried (W σ (⟨256 * g + r.val, by omega⟩ : Fin 2048)) (V x2 d) (g + 1)
      ((last i x0 x1 x2 x3 g hg).μ (ix2 (0 : Fin 1) r)) ((last i x0 x1 x2 x3 g hg).l (ix2 (0 : Fin 1) r))
      ((last i x0 x1 x2 x3 g hg).acc (ix3 (0 : Fin 1) d r)) := by
  have hs : ∀ a : Fin 256, causal (BitVec.ofNat 32 (256 * g)) (tileScore i x0 x1 x3 g hg g hg) (ix2 a r)
      = if r < a then ⊥ else
        (σ (⟨256 * g + r.val, by omega⟩ : Fin 2048) (⟨256 * g + a.val, by omega⟩ : Fin 2048) : EReal) := fun a => by
    rw [causal_apply g hg, tileScore_at, hσ]
  have ht : ∀ a : Fin 256, causal (BitVec.ofNat 32 (256 * g)) (tileScore i x0 x1 x3 g hg g hg) (ix2 a r) ≠ ⊤ := fun a => by
    rw [hs]
    split
    · exact bot_ne_top
    · exact EReal.coe_ne_top _
  have hw : ∀ k : Fin 256, W σ (⟨256 * g + r.val, by omega⟩ : Fin 2048) g k
      = wt (causal (BitVec.ofNat 32 (256 * g)) (tileScore i x0 x1 x3 g hg g hg) (ix2 k r)) := fun k => by
    rw [hs, W]
    by_cases h : r < k
    · have h' : r.val < k.val := h
      rw [if_pos h, dif_neg (by show ¬ (g < 8 ∧ 256 * g + k.val ≤ 256 * g + r.val); omega)]
      exact wt_bot.symm
    · have h' : ¬ r.val < k.val := h
      rw [if_neg h, dif_pos ⟨hg, by show 256 * g + k.val ≤ 256 * g + r.val; omega⟩]
  have hM : ∃ m : ℝ, Finset.fold max (⊥ : EReal)
      (fun a : Fin 256 => causal (BitVec.ofNat 32 (256 * g)) (tileScore i x0 x1 x3 g hg g hg) (ix2 a r)) Finset.univ = (m : EReal) :=
    fold_max_real _ ht ⟨r, by rw [hs, if_neg (lt_irrefl r)]; exact EReal.coe_ne_bot _⟩
  cases g with
  | zero =>
    show Carried _ _ 1 ((first _ _).μ _) ((first _ _).l _) ((first _ _).acc _)
    rw [first_μ, first_l, first_acc]
    simp only [V_rows]
    exact Carried.first ht hw hM
  | succ g =>
    have h := chain_carried i x0 x1 x2 x3 σ hσ (g + 1) hg r d g (Nat.lt_of_succ_lt hg) (Nat.lt_succ_self g)
    show Carried _ _ (g + 1 + 1) ((step _ _ _).μ _) ((step _ _ _).l _) ((step _ _ _).acc _)
    rw [step_l, step_acc, step_μ]
    simp only [V_rows]
    exact h.step ht hw hM

/-- A row's weights over all keys. -/
def weight (r j : Fin 2048) : ℝ := if j ≤ r then wt (σ r j : EReal) else 0

theorem W_beyond (r : Fin 2048) (t : ℕ) (k : Fin 256) (h : r.val < 256 * t) : W σ r t k = 0 := by
  rw [W, dif_neg (by omega)]

theorem W_weight (r : Fin 2048) (t : ℕ) (ht : t < 8) (k : Fin 256) (hl : t * 256 + k.val < 2048) :
    W σ r t k = weight σ r ⟨t * 256 + k.val, hl⟩ := by
  unfold W weight
  by_cases h : 256 * t + k.val ≤ r.val
  · rw [dif_pos ⟨ht, h⟩, if_pos (Fin.le_def.mpr (show t * 256 + k.val ≤ r.val by omega))]
    congr 3
    exact Fin.ext (by show 256 * t + k.val = t * 256 + k.val; omega)
  · rw [dif_neg (by omega), if_neg (fun hle => absurd (Fin.le_def.mp hle) (show ¬ t * 256 + k.val ≤ r.val by omega))]

theorem sum_tiles {A : Type} [AddCommMonoid A] (F : ℕ → Fin 256 → A) (f : Fin 2048 → A) (g : ℕ) (hg : g < 8)
    (h0 : ∀ t k, g < t → F t k = 0) (hF : ∀ (t : ℕ) (_ : t < 8) (k : Fin 256) (hl : t * 256 + k.val < 2048), F t k = f ⟨t * 256 + k.val, hl⟩) :
    ∑ t ∈ Finset.range (g + 1), ∑ k, F t k = ∑ j, f j := by
  have h8 : ∑ t ∈ Finset.range (g + 1), ∑ k, F t k = ∑ t ∈ Finset.range 8, ∑ k, F t k := by
    refine Finset.sum_subset (Finset.range_subset_range.mpr hg) fun t _ ht => ?_
    exact Finset.sum_eq_zero fun k _ => h0 t k (by simpa using ht)
  rw [h8, Finset.sum_range]
  exact Fin.sum_mul_add_congr fun s k hl => hF s.val s.isLt k hl

theorem weight_pos (r : Fin 2048) : 0 < ∑ j, weight σ r j :=
  Finset.sum_pos' (fun j _ => by unfold weight; split; exact wt_nonneg _; exact le_refl _)
    ⟨r, Finset.mem_univ r, by unfold weight; rw [if_pos le_rfl, wt_coe]; exact two_pos _⟩

include hσ in
/-- The kernel's output at a row and a lane: the weighted mean of the values, gated. -/
theorem block_value (r : Fin 2048) (d : Fin 128) : block i x0 x1 x2 x3 x4 (ix3 (0 : Fin 1) r d)
    = (∑ j : Fin 2048, x2 (ix3 (0 : Fin 1) j d) * ((weight σ r j / ∑ j, weight σ r j : ℝ) : EReal))
      * (x4 (ix3 (0 : Fin 1) r d) * Ideal.div 1 (1 + Ideal.exp (0 - x4 (ix3 (0 : Fin 1) r d)))) := by
  have hg : r.val / 256 < 8 := by have := r.isLt; omega
  have hr : (⟨256 * (r.val / 256) + r.val % 256, by have := r.isLt; omega⟩ : Fin 2048) = r := Fin.ext (Nat.div_add_mod _ _)
  have hc := last_carried i x0 x1 x2 x3 σ hσ (r.val / 256) hg ⟨r.val % 256, Nat.mod_lt _ (by decide)⟩ d
  simp only [hr] at hc
  have hsum : ∑ t ∈ Finset.range (r.val / 256 + 1), ∑ k, W σ r t k = ∑ j, weight σ r j :=
    sum_tiles _ _ _ hg (fun t k ht => W_beyond σ r t k (by omega)) (fun t ht k hl => W_weight σ r t ht k hl)
  have hq := hc.quotient (by rw [hsum]; exact weight_pos σ r)
  rw [hsum] at hq
  rw [block_at i x0 x1 x2 x3 x4 (r.val / 256) hg (ix3 (0 : Fin 1) r d)
    (ix3 (0 : Fin 1) (⟨r.val % 256, Nat.mod_lt _ (by decide)⟩ : Fin 256) d) (Nat.div_add_mod _ _).symm rfl]
  unfold result
  rw [finish_apply, hq, rows_at]
  simp only [hr]
  congr 1
  refine sum_tiles _ _ _ hg (fun t k ht => ?_) fun t ht k hl => ?_
  · rw [W_beyond σ r t k (by omega), zero_div, EReal.coe_zero, mul_zero]
  · rw [W_weight σ r t ht k hl, V, dif_pos ht]
    congr 3
    exact Fin.ext (by show 256 * t + k.val = t * 256 + k.val; omega)

end Cert.FoxIdeal.Chain
-- ==== Proof.FoxSoftmax.lean ====
module

public import proofs.«01_k».proof.Proof.FoxMath

/-! A masked row's softmax in base e, where the scores are in powers of two. -/

@[expose] public section

noncomputable section

namespace Cert.FoxMath

open Idealize.ShloMosaic

theorem exp_log2 (s : ℝ) : Real.exp (Real.log 2 * s) = (2 : ℝ) ^ s := by
  rw [Real.rpow_def_of_pos (by norm_num)]

/-- A masked row's softmax: the weight of a key is its power of two over the sum of them. -/
theorem softmax_masked {n : ℕ} (r : Fin n) (L : Fin n → EReal) (σ : Fin n → ℝ) (c : ℝ)
    (hL : ∀ j, L j = if j ≤ r then ((Real.log 2 * σ j + c : ℝ) : EReal) else ⊥) (j : Fin n) :
    Ideal.div (Ideal.exp (L j - max ⊥ (Finset.fold max (⊥ : EReal) L Finset.univ)))
        (0 + ∑ k, Ideal.exp (L k - max ⊥ (Finset.fold max (⊥ : EReal) L Finset.univ)))
      = (((if j ≤ r then wt (σ j : EReal) else 0) / ∑ k, if k ≤ r then wt (σ k : EReal) else 0 : ℝ) : EReal) := by
  obtain ⟨M, hM⟩ := fold_max_real L
    (fun k => by rw [hL]; split; exact EReal.coe_ne_top _; exact bot_ne_top)
    ⟨r, by rw [hL, if_pos le_rfl]; exact EReal.coe_ne_bot _⟩
  rw [hM, max_eq_right bot_le, zero_add]
  have he : ∀ k, Ideal.exp (L k - (M : EReal)) = (((if k ≤ r then wt (σ k : EReal) else 0) * Real.exp (c - M) : ℝ) : EReal) := fun k => by
    rw [hL]
    by_cases h : k ≤ r
    · rw [if_pos h, if_pos h, ← EReal.coe_sub, wt_coe, ← exp_log2, ← Real.exp_add]
      show ((Real.exp _ : ℝ) : EReal) = _
      congr 2
      ring
    · rw [if_neg h, if_neg h, zero_mul, EReal.bot_sub]
      rfl
  have hW : 0 < ∑ k, (if k ≤ r then wt (σ k : EReal) else 0 : ℝ) :=
    Finset.sum_pos' (fun j _ => by split; exact wt_nonneg _; exact le_refl _)
      ⟨r, Finset.mem_univ r, by rw [if_pos le_rfl, wt_coe]; exact two_pos _⟩
  rw [he, Finset.sum_congr rfl fun k _ => he k, ← coe_sum, ← Finset.sum_mul]
  generalize (∑ k, (if k ≤ r then wt (σ k : EReal) else 0 : ℝ)) = W at *
  have hp : 0 < W * Real.exp (c - M) := mul_pos hW (Real.exp_pos _)
  rw [Ideal.div, if_neg (by exact_mod_cast hp.ne'), ← EReal.coe_inv, ← EReal.coe_mul]
  congr 1
  field_simp

end Cert.FoxMath
-- ==== Proof.FoxRef.lean ====
module

public import proofs.«01_k».proof.Proof.FoxSoftmax
public import proofs.«01_k».proof.Proof.Gen.FoxReferenceIdeal.Read
public import Idealize.ShloMosaic.Lib.Pointwise
public import Idealize.ShloMosaic.Lib.WordCmp

/-! The attention reference read at an index. -/

@[expose] public section

set_option maxRecDepth 16384

noncomputable section

namespace Cert.FoxReferenceIdeal.Point

open Cert.FoxReferenceIdeal Cert.FoxReferenceIdeal.Read Idealize.ShloMosaic Cert.FoxMath

variable (x0 : FVec Ideal S4x2048x1024 .bf16) (x1 : FVec Ideal S4x2048x2048 .bf16) (x2 : FVec Ideal S4x2048x128 .f32)
  (x3 : FVec Ideal S4x2048x9216 .f32)

/-- A head's lane among the model's. -/
abbrev lane (h : Fin 8) (d : Fin 128) : Fin 1024 := ⟨h.val * 128 + d.val, by omega⟩

theorem q_at (b : Fin 4) (h : Fin 8) (r : Fin 2048) (x : Fin 128) :
    val_main_v12 (F := Ideal) x0 (ix4 b h r x) = x0 (ix3 b r (lane h x)) := by
  pointwise [val_main_v12, val_main_v11, val_main_v0]

theorem k_at (b : Fin 4) (h : Fin 8) (j : Fin 2048) (x : Fin 128) :
    val_main_v4 (F := Ideal) x1 (ix4 b h j x) = x1 (ix3 b j (⟨h.val * 128 + x.val, by omega⟩ : Fin 2048)) := by
  pointwise [val_main_v4, val_main_v3, val_main_v2, val_main_v1]

theorem v_at (b : Fin 4) (h : Fin 8) (j : Fin 2048) (x : Fin 128) :
    val_main_v7 (F := Ideal) x1 (ix4 b h j x) = x1 (ix3 b j (⟨1024 + (h.val * 128 + x.val), by omega⟩ : Fin 2048)) := by
  pointwise [val_main_v7, val_main_v6, val_main_v5, val_main_v1]

theorem c_at (b : Fin 4) (h : Fin 8) (j : Fin 2048) :
    val_main_v10 (F := Ideal) x2 (ix3 b h j) = x2 (ix3 b j (⟨96 + h.val, by omega⟩ : Fin 128)) := by
  pointwise [val_main_v10, val_main_v9]

theorem dot_at (b : Fin 4) (h : Fin 8) (r j : Fin 2048) :
    val_main_v13 (F := Ideal) x0 x1 (ix4 b h r j)
      = ∑ x : Fin 128, x0 (ix3 b r (lane h x)) * x1 (ix3 b j (⟨h.val * 128 + x.val, by omega⟩ : Fin 2048)) := by
  rw [val_main_v13_apply]
  refine Finset.sum_congr rfl fun x _ => congrArg₂ (· * ·) ?_ ?_
  · exact (congrArg _ (funext fun a => by fin_cases a <;> rfl)).trans (q_at x0 b h r x)
  · exact (congrArg _ (funext fun a => by fin_cases a <;> rfl)).trans (k_at x1 b h j x)

theorem mask_at (b : Fin 4) (h : Fin 8) (r j : Fin 2048) :
    val_main_call0_v1 (F := Ideal) (ix4 b h r j) = BitVec.ofBool (decide (j.val ≤ r.val)) := by
  pointwise [val_main_call0_v1, val_main_v29, val_main_v28, val_main_v27, val_main_v26, val_main_v25, val_main_v24]
  exact WordCmp.cmpi_sle_ofNat (lt_trans j.isLt (by norm_num)) (lt_trans r.isLt (by norm_num))

theorem row_at (b : Fin 4) (h : Fin 8) (r j : Fin 2048) :
    val_main_v19 (F := Ideal) x2 (ix4 b h r j) = x2 (ix3 b r (⟨96 + h.val, by omega⟩ : Fin 128)) := by
  have e : val_main_v19 (F := Ideal) x2 (ix4 b h r j) = val_main_v10 (F := Ideal) x2 (ix3 b h r) := by
    pointwise [val_main_v19, val_main_v18]
  exact e.trans (c_at x2 b h r)

theorem col_at (b : Fin 4) (h : Fin 8) (r j : Fin 2048) :
    val_main_v22 (F := Ideal) x2 (ix4 b h r j) = x2 (ix3 b j (⟨96 + h.val, by omega⟩ : Fin 128)) := by
  have e : val_main_v22 (F := Ideal) x2 (ix4 b h r j) = val_main_v10 (F := Ideal) x2 (ix3 b h j) := by
    pointwise [val_main_v22, val_main_v21]
  exact e.trans (c_at x2 b h j)

theorem neg_top : Ideal.ofBits FTy.f32 4286578688#32 = ⊥ := by
  simp [Ideal.ofBits, Ideal.ieee]

theorem none_at (b : Fin 4) (h : Fin 8) (r j : Fin 2048) :
    val_main_call0_v2 (F := Ideal) (ix4 b h r j) = ⊥ := by
  pointwise [val_main_call0_v2, val_main_call0_v0, val_main_cst_0]
  exact neg_top

theorem two : Ideal.ofBits FTy.f32 1073741824#32 = ((2 : ℝ) : EReal) := by
  simp [Ideal.ofBits, Ideal.ieee]
  rw [← EReal.coe_mul]
  norm_num

theorem ln2_at (b : Fin 4) (h : Fin 8) (r j : Fin 2048) :
    val_main_v16 (F := Ideal) (ix4 b h r j) = ((Real.log 2 : ℝ) : EReal) := by
  pointwise [val_main_v16, val_main_v15, val_main_v14, val_main_cst]
  show Ideal.log (Ideal.ofBits FTy.f32 1073741824#32) = _
  rw [two]
  show (if (2 : ℝ) ≤ 0 then (⊥ : EReal) else (Real.log 2 : EReal)) = _
  rw [if_neg (by norm_num)]

/-- A masked logit. -/
theorem logit_at (b : Fin 4) (h : Fin 8) (r j : Fin 2048) :
    val_main_v30 (F := Ideal) x0 x1 x2 (ix4 b h r j) = if j ≤ r then
      (∑ x : Fin 128, x0 (ix3 b r (lane h x)) * x1 (ix3 b j (⟨h.val * 128 + x.val, by omega⟩ : Fin 2048))) * ((Real.log 2 : ℝ) : EReal)
        + x2 (ix3 b r (⟨96 + h.val, by omega⟩ : Fin 128)) - x2 (ix3 b j (⟨96 + h.val, by omega⟩ : Fin 128)) else ⊥ := by
  rw [val_main_v30_apply, mask_at, none_at, val_main_v23_apply, val_main_v20_apply, val_main_v17_apply, dot_at, ln2_at, row_at, col_at]
  by_cases hj : j ≤ r
  · rw [if_pos hj, decide_eq_true (Fin.le_def.mp hj)]
    rfl
  · rw [if_neg hj, decide_eq_false (fun h => hj (Fin.le_def.mpr h))]
    rfl

theorem max_at (b : Fin 4) (h : Fin 8) (r : Fin 2048) :
    val_main_v33 (F := Ideal) x0 x1 x2 (ix3 b h r)
      = max ⊥ (Finset.fold max (⊥ : EReal) (fun j => val_main_v30 (F := Ideal) x0 x1 x2 (ix4 b h r j)) Finset.univ) := by
  rw [val_main_v33_apply, val_main_v32_apply, val_main_cst_2_apply]
  refine congrArg₂ max neg_top ?_
  unfold val_main_v31
  generalize val_main_v30 (F := Ideal) x0 x1 x2 = y
  rw [Host.reduce_eq_fold_single _ _ _ _ (by decide)]
  refine (congrArg (fun e => Finset.fold _ e _ _) neg_top).trans ?_
  refine congrArg (fun f => Finset.fold _ _ f _) (funext fun k => congrArg _ (funext fun a => Fin.ext (by fin_cases a <;> rfl)))

theorem p_at (b : Fin 4) (h : Fin 8) (r j : Fin 2048) :
    val_main_v41 (F := Ideal) x0 x1 x2 (ix4 b h r j)
      = Ideal.div (Ideal.exp (val_main_v30 (F := Ideal) x0 x1 x2 (ix4 b h r j) - val_main_v33 (F := Ideal) x0 x1 x2 (ix3 b h r)))
        (0 + ∑ k : Fin 2048, Ideal.exp (val_main_v30 (F := Ideal) x0 x1 x2 (ix4 b h r k) - val_main_v33 (F := Ideal) x0 x1 x2 (ix3 b h r))) := by
  have e : ∀ k, val_main_v37 (F := Ideal) x0 x1 x2 (ix4 b h r k)
      = Ideal.exp (val_main_v30 (F := Ideal) x0 x1 x2 (ix4 b h r k) - val_main_v33 (F := Ideal) x0 x1 x2 (ix3 b h r)) := fun k => by
    rw [val_main_v37_apply, val_main_v36_apply, val_main_v35_apply, val_main_v34_apply]
    have ei : idx_main_v34 (idx_main_v35 (ix4 b h r k)) = ix3 b h r := funext fun a => by fin_cases a <;> rfl
    rw [ei]
    generalize val_main_v30 (F := Ideal) x0 x1 x2 (ix4 b h r k) = p
    generalize val_main_v33 (F := Ideal) x0 x1 x2 (ix3 b h r) = q
    rfl
  rw [val_main_v41_apply, val_main_v40_apply, val_main_v39_apply, val_main_v38_apply, e]
  refine congrArg₂ Ideal.div rfl (congrArg₂ (· + ·) ?_ (Finset.sum_congr rfl fun k _ => (congrArg _ (funext fun a => by fin_cases a <;> rfl)).trans (e k)))
  exact Ideal.ofBits_zero_f32

theorem out_at (b : Fin 4) (r : Fin 2048) (h : Fin 8) (d : Fin 128) :
    val_main_v47 (F := Ideal) x0 x1 x2 x3 (ix3 b r (lane h d))
      = (∑ j : Fin 2048, val_main_v41 (F := Ideal) x0 x1 x2 (ix4 b h r j) * x1 (ix3 b j (⟨1024 + (h.val * 128 + d.val), by omega⟩ : Fin 2048)))
        * (x3 (ix3 b r (⟨4096 + (h.val * 128 + d.val), by omega⟩ : Fin 9216))
          * Ideal.div 1 (1 + Ideal.exp (-x3 (ix3 b r (⟨4096 + (h.val * 128 + d.val), by omega⟩ : Fin 9216))))) := by
  have e : val_main_v44 (F := Ideal) x0 x1 x2 (ix3 b r (lane h d)) = val_main_v42 (F := Ideal) x0 x1 x2 (ix4 b h r d) := by
    have h1 : (⟨(h.val * 128 + d.val) / 128, by omega⟩ : Fin 8) = h := Fin.ext (by show (h.val * 128 + d.val) / 128 = h.val; omega)
    have h2 : (⟨(h.val * 128 + d.val) % 128, by omega⟩ : Fin 128) = d := Fin.ext (by show (h.val * 128 + d.val) % 128 = d.val; omega)
    pointwise [val_main_v44, val_main_v43]
    rw [h1, h2]
  have z : val_main_v8 (F := Ideal) x3 (ix3 b r (lane h d)) = x3 (ix3 b r (⟨4096 + (h.val * 128 + d.val), by omega⟩ : Fin 9216)) := by
    pointwise [val_main_v8]
  have s : val_main_v45 (F := Ideal) x3 (ix3 b r (lane h d)) = val_main_v8 (F := Ideal) x3 (ix3 b r (lane h d))
      * Ideal.div 1 (1 + Ideal.exp (-(val_main_v8 (F := Ideal) x3 (ix3 b r (lane h d))))) := by
    pointwise [val_main_v45, val_main_call1_v0, val_main_call1_v1, val_main_call1_v2, val_main_call1_v3, val_main_call1_v4, val_main_call1_v5, val_main_call1_cst, val_main_call1_cst_0]
  rw [val_main_v47_apply, val_main_v46_apply, e, s, z, val_main_v42_apply]
  refine congrArg₂ (· * ·) (Finset.sum_congr rfl fun k _ => congrArg₂ (· * ·) (congrArg _ (funext fun a => by fin_cases a <;> rfl)) ?_) rfl
  exact (congrArg _ (funext fun a => by fin_cases a <;> rfl)).trans (v_at x1 b h k d)

/-- The reference's output at a row and a lane, where the queries, the keys and the running sums are numbers. -/
theorem value_at (b : Fin 4) (r : Fin 2048) (h : Fin 8) (d : Fin 128) (s c : Fin 2048 → ℝ)
    (hs : ∀ j, ∑ x : Fin 128, x0 (ix3 b r (lane h x)) * x1 (ix3 b j (⟨h.val * 128 + x.val, by omega⟩ : Fin 2048)) = (s j : EReal))
    (hc : ∀ j, x2 (ix3 b j (⟨96 + h.val, by omega⟩ : Fin 128)) = (c j : EReal)) :
    val_main_v47 (F := Ideal) x0 x1 x2 x3 (ix3 b r (lane h d))
      = (∑ j : Fin 2048, (((if j ≤ r then wt ((s j - c j * (Real.log 2)⁻¹ : ℝ) : EReal) else 0)
            / ∑ k, if k ≤ r then wt ((s k - c k * (Real.log 2)⁻¹ : ℝ) : EReal) else 0 : ℝ) : EReal)
          * x1 (ix3 b j (⟨1024 + (h.val * 128 + d.val), by omega⟩ : Fin 2048)))
        * (x3 (ix3 b r (⟨4096 + (h.val * 128 + d.val), by omega⟩ : Fin 9216))
          * Ideal.div 1 (1 + Ideal.exp (-x3 (ix3 b r (⟨4096 + (h.val * 128 + d.val), by omega⟩ : Fin 9216))))) := by
  rw [out_at]
  congr 1
  refine Finset.sum_congr rfl fun j _ => ?_
  congr 1
  rw [p_at, max_at]
  refine softmax_masked r (fun j => val_main_v30 (F := Ideal) x0 x1 x2 (ix4 b h r j)) (fun j => s j - c j * (Real.log 2)⁻¹) (c r) (fun k => ?_) j
  rw [logit_at, hs, hc, hc]
  congr 1
  rw [← EReal.coe_mul, ← EReal.coe_add, ← EReal.coe_sub]
  have hl : Real.log 2 ≠ 0 := (Real.log_pos (by norm_num)).ne'
  congr 1
  field_simp
  ring

end Cert.FoxReferenceIdeal.Point
-- ==== Proof.FoxValue.lean ====
module

public import proofs.«01_k».proof.Proof.FoxCarry
public import proofs.«01_k».proof.Proof.FoxRef
public import proofs.«01_k».proof.Proof.Gen.FoxIdeal.Value
public import proofs.«01_k».proof.Proof.Gen.Pre_finite
public import proofs.«01_k».proof.Defs
public import Idealize.ShloMosaic.Lib.Pipeline.ValueKit

/-! The attention kernel's final arrays are the reference's. -/

@[expose] public section

set_option maxRecDepth 16384

noncomputable section

namespace Cert.FoxIdeal.Final

open Cert.FoxIdeal Cert.FoxIdeal.Gen Cert.FoxIdeal.Chain Idealize.ShloMosaic Idealize.ShloMosaic.TcCoe Idealize.SL.Sem Cert.FoxMath

variable (m : (ℓ : Loc nD τ sig) → Buf (Elt Ideal) ℓ) (c : Dev nD)

theorem idx : ∀ t : Fin cfg0.N, win0_0.index t = ![t.val / 8, 0, t.val % 8] ∧ win0_1.index t = ![t.val / 8, 0, t.val % 8]
    ∧ win0_2.index t = ![t.val / 8, 0, 8 + t.val % 8] ∧ win0_3.index t = ![t.val / 8, 0, 0] ∧ win0_4.index t = ![t.val / 8, 0, 32 + t.val % 8]
    ∧ win0_5.index t = ![t.val, 0] ∧ win0_6.index t = ![t.val, 0] ∧ win0_7.index t = ![t.val, 0]
    ∧ win0_8.index t = ![t.val / 8, 0, t.val % 8]
    ∧ win0_9.index t = ![t.val, 0] ∧ win0_10.index t = ![t.val, 0] ∧ win0_11.index t = ![t.val, 0] :=
  (by decide +kernel : ∀ t : Fin grid0.N, _)

theorem head : ∀ t : Fin cfg0.N, ((grid0.coords t) 1).val = t.val % 8 := (by decide +kernel : ∀ t : Fin grid0.N, _)

theorem in0 (t : Fin cfg0.N) (b : Fin 4) (h : Fin 8) (hb : b.val = t.val / 8) (hh : h.val = t.val % 8) (r : Fin 2048) (d : Fin 128) :
    iblk m c 0 t (ix3 (0 : Fin 1) r d) = m ((c : Thread nD τ).loc main_arg0) (ix3 b r (⟨h.val * 128 + d.val, by omega⟩ : Fin 1024)) := by
  blk_point [iblk, Gen.V, idx t]

theorem in1 (t : Fin cfg0.N) (b : Fin 4) (h : Fin 8) (hb : b.val = t.val / 8) (hh : h.val = t.val % 8) (r : Fin 2048) (d : Fin 128) :
    iblk m c 1 t (ix3 (0 : Fin 1) r d) = m ((c : Thread nD τ).loc main_arg1) (ix3 b r (⟨h.val * 128 + d.val, by omega⟩ : Fin 2048)) := by
  blk_point [iblk, Gen.V, idx t]

theorem in2 (t : Fin cfg0.N) (b : Fin 4) (h : Fin 8) (hb : b.val = t.val / 8) (hh : h.val = t.val % 8) (r : Fin 2048) (d : Fin 128) :
    iblk m c 2 t (ix3 (0 : Fin 1) r d) = m ((c : Thread nD τ).loc main_arg1) (ix3 b r (⟨1024 + (h.val * 128 + d.val), by omega⟩ : Fin 2048)) := by
  blk_point [iblk, Gen.V, idx t]

theorem in3 (t : Fin cfg0.N) (b : Fin 4) (h : Fin 8) (hb : b.val = t.val / 8) (hh : h.val = t.val % 8) (r : Fin 2048) (d : Fin 128) :
    iblk m c 3 t (ix3 (0 : Fin 1) r d) = m ((c : Thread nD τ).loc main_arg2) (ix3 b r (⟨d.val, by omega⟩ : Fin 128)) := by
  blk_point [iblk, Gen.V, idx t]

theorem in4 (t : Fin cfg0.N) (b : Fin 4) (h : Fin 8) (hb : b.val = t.val / 8) (hh : h.val = t.val % 8) (r : Fin 2048) (d : Fin 128) :
    iblk m c 4 t (ix3 (0 : Fin 1) r d) = m ((c : Thread nD τ).loc main_arg3) (ix3 b r (⟨4096 + (h.val * 128 + d.val), by omega⟩ : Fin 9216)) := by
  blk_point [iblk, Gen.V, idx t]

/-- Output 9: the weight matrix itself. -/
theorem final9 : (dats m 0 c).arrAt 9 (cfgs 0).N
    = Cert.FoxReferenceIdeal.Read.val_main_v48 (F := Ideal) (m ((c : Thread nD τ).loc main_arg4)) := by
  refine (dats m 0 c).arrAt_eq_of_covers 9 _ (by decide +kernel) fun t _ y => ?_
  blk_simp
  rw [after0_9]; frame_out
  pointwise [k0_pay2, Cert.FoxReferenceIdeal.Read.val_main_v48]
  blk_point [iblk, Gen.V, idx t]

/-- Output 10: the weight matrix itself. -/
theorem final10 : (dats m 0 c).arrAt 10 (cfgs 0).N
    = Cert.FoxReferenceIdeal.Read.val_main_v49 (F := Ideal) (m ((c : Thread nD τ).loc main_arg5)) := by
  refine (dats m 0 c).arrAt_eq_of_covers 10 _ (by decide +kernel) fun t _ y => ?_
  blk_simp
  rw [after0_10]; frame_out
  pointwise [k0_pay3, Cert.FoxReferenceIdeal.Read.val_main_v49]
  blk_point [iblk, Gen.V, idx t]

/-- Output 11: the weight matrix itself. -/
theorem final11 : (dats m 0 c).arrAt 11 (cfgs 0).N
    = Cert.FoxReferenceIdeal.Read.val_main_v50 (F := Ideal) (m ((c : Thread nD τ).loc main_arg6)) := by
  refine (dats m 0 c).arrAt_eq_of_covers 11 _ (by decide +kernel) fun t _ y => ?_
  blk_simp
  rw [after0_11]; frame_out
  pointwise [k0_pay4, Cert.FoxReferenceIdeal.Read.val_main_v50]
  blk_point [iblk, Gen.V, idx t]

theorem product_real (A0 : FVec Ideal S4x2048x1024 .bf16) (A1 : FVec Ideal S4x2048x2048 .bf16) (hq : ∀ i, ∃ r : ℝ, A0 i = (r : EReal))
    (hk : ∀ (b : Fin 4) (j : Fin 2048) (l : Fin 2048), l.val < 1024 → ∃ r : ℝ, A1 (ix3 b j l) = (r : EReal)) (b : Fin 4) (h : Fin 8) (r j : Fin 2048) :
    ∃ s : ℝ, ∑ x : Fin 128, A0 (ix3 b r (⟨h.val * 128 + x.val, by omega⟩ : Fin 1024))
      * A1 (ix3 b j (⟨h.val * 128 + x.val, by omega⟩ : Fin 2048)) = (s : EReal) := by
  choose q hq using hq
  choose k hk using fun x : Fin 128 => hk b j (⟨h.val * 128 + x.val, by omega⟩ : Fin 2048) (by show h.val * 128 + x.val < 1024; omega)
  refine ⟨∑ x : Fin 128, q (ix3 b r (⟨h.val * 128 + x.val, by omega⟩ : Fin 1024)) * k x, ?_⟩
  rw [coe_sum]
  exact Finset.sum_congr rfl fun x _ => by rw [EReal.coe_mul, hq, hk]

variable (hq : ∀ i, ∃ r : ℝ, m ((c : Thread nD τ).loc main_arg0) i = (r : EReal))
  (hk : ∀ (b : Fin 4) (j : Fin 2048) (l : Fin 2048), l.val < 1024 → ∃ r : ℝ, m ((c : Thread nD τ).loc main_arg1) (ix3 b j l) = (r : EReal))
  (hc : ∀ (b : Fin 4) (j : Fin 2048) (h : Fin 8), ∃ r : ℝ, m ((c : Thread nD τ).loc main_arg2) (ix3 b j (⟨96 + h.val, by omega⟩ : Fin 128)) = (r : EReal))

include hq hk hc in
theorem point8 (t : Fin cfg0.N) (y : S1x2048x128.Idx) : (outsAt0 m c t).1 y
    = Cert.FoxReferenceIdeal.Read.val_main_v47 (F := Ideal) (m ((c : Thread nD τ).loc main_arg0)) (m ((c : Thread nD τ).loc main_arg1))
      (m ((c : Thread nD τ).loc main_arg2)) (m ((c : Thread nD τ).loc main_arg3)) (((cfg0.win 8).blk t).view.emb y) := by
  have ht : t.val < 32 := t.isLt
  obtain ⟨r, d, rfl⟩ : ∃ (r : Fin 2048) (d : Fin 128), y = ix3 (0 : Fin 1) r d := by
    refine ⟨y 1, y 2, funext fun a => ?_⟩
    match a with
    | ⟨0, _⟩ => exact Fin.ext (by have : (y 0).val < 1 := (y 0).isLt; show (y 0).val = 0; omega)
    | ⟨1, _⟩ => rfl
    | ⟨2, _⟩ => rfl
  have hb4 : t.val / 8 < 4 := by omega
  have hh8 : t.val % 8 < 8 := by omega
  generalize hb : (⟨t.val / 8, hb4⟩ : Fin 4) = b
  generalize hh : (⟨t.val % 8, hh8⟩ : Fin 8) = h
  replace hb : b.val = t.val / 8 := by rw [← hb]
  replace hh : h.val = t.val % 8 := by rw [← hh]
  have he : ((cfg0.win 8).blk t).view.emb (ix3 (0 : Fin 1) r d) = ix3 b r (Cert.FoxReferenceIdeal.Point.lane h d) := by
    blk_ext [idx t]
  choose s hs using product_real _ _ hq hk b h
  choose g hg using fun j => hc b j h
  rw [he, Cert.FoxReferenceIdeal.Point.value_at _ _ _ _ b r h d (s r) g (hs r) hg, outs8,
    block_value (grid0.coords t) (iblk m c 0 t) (iblk m c 1 t) (iblk m c 2 t) (iblk m c 3 t) (iblk m c 4 t)
      (fun r j => s r j - g j * (Real.log 2)⁻¹) (fun r j => ?_) r d]
  · rw [in4 m c t b h hb hh, zero_sub]
    refine congrArg₂ (· * ·) (Finset.sum_congr rfl fun j _ => ?_) rfl
    rw [in2 m c t b h hb hh, mul_comm]
    rfl
  · unfold sco
    rw [decay_apply _ _ _ (⟨96 + h.val, by omega⟩ : Fin 128) (by show 96 + h.val = _; rw [head t, hh]), in3 m c t b h hb hh, hg, EReal.coe_sub, EReal.coe_mul, ← hs]
    refine congrArg₂ (· - ·) (Finset.sum_congr rfl fun x _ => ?_) rfl
    rw [in0 m c t b h hb hh, in1 m c t b h hb hh, mul_comm]

include hq hk hc in
/-- Output 8: the attention. -/
theorem final8 : (dats m 0 c).arrAt 8 (cfgs 0).N
    = Cert.FoxReferenceIdeal.Read.val_main_v47 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 8 _ (by decide +kernel) fun t _ y => ?_
  blk_simp
  rw [after0_8]
  exact point8 m c hq hk hc t y

/-- An absolute value below ⊤ is a number's. -/
theorem number {x : EReal} (h : Ideal.cmp .olt (max x (-x)) (Ideal.ofBits FTy.f32 0x7F800000#32) = 1#1) : ∃ r : ℝ, x = (r : EReal) := by
  have ht : Ideal.ofBits FTy.f32 0x7F800000#32 = ⊤ := by simp [Ideal.ofBits, Ideal.ieee]
  rw [ht] at h
  have hlt : max x (-x) < ⊤ := by
    by_contra hn
    simp [Ideal.cmp, hn] at h
  induction x with
  | bot => simp at hlt
  | top => simp at hlt
  | coe r => exact ⟨r, rfl⟩

theorem arg_real (hp : Cert.Pre_FoxIdeal_finite (hPre_finite := Cert.Pre_finite.Gen.facts) m) :
    (∀ i, ∃ r : ℝ, m ((c : Thread nD τ).loc main_arg0) i = (r : EReal))
    ∧ (∀ (b : Fin 4) (j : Fin 2048) (l : Fin 2048), l.val < 1024 → ∃ r : ℝ, m ((c : Thread nD τ).loc main_arg1) (ix3 b j l) = (r : EReal))
    ∧ (∀ (b : Fin 4) (j : Fin 2048) (h : Fin 8), ∃ r : ℝ, m ((c : Thread nD τ).loc main_arg2) (ix3 b j (⟨96 + h.val, by omega⟩ : Fin 128)) = (r : EReal)) := by
  obtain ⟨h0, h1, h2⟩ := hp c
  refine ⟨fun i => number (congrFun h0 i), fun b j l hl => number ?_, fun b j h => number ?_⟩
  · have e := congrFun h1 (ix3 b j (⟨l.val, hl⟩ : Fin 1024))
    refine Eq.trans (congrArg (fun z : EReal => Ideal.cmp .olt (max z (-z)) (Ideal.ofBits FTy.f32 0x7F800000#32)) ?_) e
    exact (extractStridedSlice_apply ![0, 0, 0] (extf (F := Ideal) .f32 (m ((c : Thread nD τ).loc main_arg1)) Cert.Pre_finite.Gen.facts.bitsLt_bf16_f32) Cert.Pre_finite.Gen.facts.slices_S4x2048x2048_S4x2048x1024_0_0_0
      (ix3 b j (⟨l.val, hl⟩ : Fin 1024)) (ix3 b j l) (fun a => match a with
        | ⟨0, _⟩ => (Nat.zero_add _).symm
        | ⟨1, _⟩ => (Nat.zero_add _).symm
        | ⟨2, _⟩ => (Nat.zero_add _).symm)).symm
  · have e := congrFun h2 (ix3 b j h)
    refine Eq.trans (congrArg (fun z : EReal => Ideal.cmp .olt (max z (-z)) (Ideal.ofBits FTy.f32 0x7F800000#32)) ?_) e
    exact (extractStridedSlice_apply ![0, 0, 96] (m ((c : Thread nD τ).loc main_arg2)) Cert.Pre_finite.Gen.facts.slices_S4x2048x128_S4x2048x8_0_0_96
      (ix3 b j h) (ix3 b j (⟨96 + h.val, by omega⟩ : Fin 128)) (fun a => match a with
        | ⟨0, _⟩ => (Nat.zero_add _).symm
        | ⟨1, _⟩ => (Nat.zero_add _).symm
        | ⟨2, _⟩ => rfl)).symm

/-- Output 8 under the claim's precondition. -/
theorem final8_of (hp : Cert.Pre_FoxIdeal_finite (hPre_finite := Cert.Pre_finite.Gen.facts) m) : (dats m 0 c).arrAt 8 (cfgs 0).N
    = Cert.FoxReferenceIdeal.Read.val_main_v47 (F := Ideal) (m ((c : Thread nD τ).loc main_arg0)) (m ((c : Thread nD τ).loc main_arg1))
      (m ((c : Thread nD τ).loc main_arg2)) (m ((c : Thread nD τ).loc main_arg3)) :=
  final8 m c (arg_real m c hp).1 (arg_real m c hp).2.1 (arg_real m c hp).2.2

end Cert.FoxIdeal.Final
-- ==== Proof.NormQValue.lean ====
module

public import proofs.«01_k».proof.Proof.Gen.NormQIdeal.Value
public import proofs.«01_k».proof.Proof.Gen.NormQReferenceIdeal.Read
public import Idealize.ShloMosaic.Lib.Pipeline.ValueKit

/-! The normalised stream and the scaled queries are the reference's. -/

@[expose] public section

set_option maxRecDepth 16384

noncomputable section

namespace Cert.NormQIdeal.Final

open Cert.NormQIdeal Cert.NormQIdeal.Gen Idealize.ShloMosaic Idealize.ShloMosaic.TcCoe Idealize.SL.Sem

variable (m : (ℓ : Loc nD τ sig) → Buf (Elt Ideal) ℓ) (c : Dev nD)

/-- The block each window holds at each grid point. -/
theorem idx : ∀ t : Fin cfg0.N, win0_0.index t = ![t.val, 0] ∧ win0_1.index t = ![0, 0]
    ∧ win0_2.index t = ![0, 0] ∧ win0_3.index t = ![t.val, 0] ∧ win0_4.index t = ![t.val, 0] :=
  (by decide +kernel : ∀ t : Fin grid0.N, _)

theorem in0 (t : Fin cfg0.N) (p : Fin 1024) (q : Fin 2048) (r : Fin 8192) (hr : r.val = t.val * 1024 + p.val) :
    iblk m c 0 t (ix2 p q) = Cert.NormQReferenceIdeal.Read.val_main_v0 (F := Ideal) (m ((c : Thread nD τ).loc main_arg0)) (ix2 r q) := by
  unfold Cert.NormQReferenceIdeal.Read.val_main_v0
  blk_simp [iblk, idx t]
  entry_read
  have e : ((View.whole main_v0).slice (win0_0.rect t)).emb (ix2 p q) = ix2 r q := by blk_ext [idx t]
  exact congrArg _ e

theorem in1 (t : Fin cfg0.N) (q : Fin 2048) :
    iblk m c 1 t (ix2 (0 : Fin 1) q) = Cert.NormQReferenceIdeal.Read.val_main_v11 (F := Ideal) (m ((c : Thread nD τ).loc main_arg1)) (ix1 q) := by
  unfold Cert.NormQReferenceIdeal.Read.val_main_v11
  blk_simp [iblk, idx t]
  entry_read
  have e : ((View.whole main_v2).slice (win0_1.rect t)).emb (ix2 (0 : Fin 1) q) = ix2 (0 : Fin 1) q := by blk_ext [idx t]
  refine (congrArg _ e).trans ?_
  pointwise []

theorem in2 (t : Fin cfg0.N) (k : Fin 1024) (j : Fin 2048) :
    X0_2 m c t (ix2 k j) = Cert.NormQReferenceIdeal.Read.val_main_v15 (F := Ideal) (m ((c : Thread nD τ).loc main_arg2)) (ix2 j (⟨k.val, by omega⟩ : Fin 12488)) := by
  unfold Cert.NormQReferenceIdeal.Read.val_main_v15 X0_2 Pipeline.Window.fill
  rw [dif_pos (moved0_2 t _)]
  blk_simp [iblk, idx t]
  entry_read
  have e : ∀ z : (win0_2.rect t).shape.Idx, (z 0).val = k.val → (z 1).val = j.val →
      ((View.whole main_v4).slice (win0_2.rect t)).emb z = ix2 (⟨k.val, by omega⟩ : Fin 12488) j := by
    intro z h0 h1
    blk_ext [idx t, h0, h1]
  refine (congrArg _ (e _ rfl rfl)).trans ?_
  pointwise []

/-- One entry of the normalised stream. -/
theorem h_at (t : Fin cfg0.N) (p : Fin 1024) (q : Fin 2048) (r : Fin 8192) (hr : r.val = t.val * 1024 + p.val) :
    k0_pay2 (iblk m c 0 t) (iblk m c 1 t) (ix2 p q)
      = Cert.NormQReferenceIdeal.Read.val_main_v14 (F := Ideal) (m ((c : Thread nD τ).loc main_arg0)) (m ((c : Thread nD τ).loc main_arg1)) (ix2 r q) := by
  have h0 := fun x => in0 m c t p x r hr
  pointwise [k0_pay2, Cert.NormQReferenceIdeal.Read.val_main_v14, Cert.NormQReferenceIdeal.Read.val_main_v13, Cert.NormQReferenceIdeal.Read.val_main_v12,
    Cert.NormQReferenceIdeal.Read.val_main_v10, Cert.NormQReferenceIdeal.Read.val_main_v9, Cert.NormQReferenceIdeal.Read.val_main_v8, Cert.NormQReferenceIdeal.Read.val_main_v7,
    Cert.NormQReferenceIdeal.Read.val_main_v6, Cert.NormQReferenceIdeal.Read.val_main_v5, Cert.NormQReferenceIdeal.Read.val_main_v4, Cert.NormQReferenceIdeal.Read.val_main_v3,
    Cert.NormQReferenceIdeal.Read.val_main_v2, Cert.NormQReferenceIdeal.Read.val_main_v1,
    Cert.NormQReferenceIdeal.Read.val_main_cst, Cert.NormQReferenceIdeal.Read.val_main_cst_0, Cert.NormQReferenceIdeal.Read.val_main_cst_1]
  simp only [h0, in1 m c t]

theorem final3 : (dats m 0 c).arrAt 3 (cfgs 0).N
    = Cert.NormQReferenceIdeal.Read.val_main_v24 (F := Ideal) (m ((c : Thread nD τ).loc main_arg0)) (m ((c : Thread nD τ).loc main_arg1)) := by
  refine (dats m 0 c).arrAt_eq_of_covers 3 _ (by decide +kernel) fun t _ y => ?_
  blk_simp
  rw [after0_3]
  obtain ⟨p, q, rfl⟩ : ∃ (p : Fin 1024) (q : Fin 2048), y = ix2 p q := ⟨y 0, y 1, by funext a; fin_cases a <;> rfl⟩
  have hN : t.val < 8 := t.isLt
  have e : ((cfg0.win 3).blk t).view.emb (ix2 p q) = ix2 (⟨t.val * 1024 + p.val, by omega⟩ : Fin 8192) q := by blk_ext [idx t]
  refine Eq.trans ?_ (congrArg _ e.symm)
  refine Eq.trans ?_ (h_at m c t p q ⟨t.val * 1024 + p.val, by omega⟩ rfl)
  by_cases h : t.val % 8 = 0
  · rw [outsAt0_A m c t h]; frame_out
  · rw [outsAt0_B m c t h]; frame_out

/-- The scaled weights, kept from the first point on. -/
theorem scr : ∀ (n : ℕ) (hn : n < cfg0.N) (k : Fin 1024) (j : Fin 2048), (outsAt0 m c n hn).2.2 (ix2 k j)
    = Cert.NormQReferenceIdeal.Read.val_main_v15 (F := Ideal) (m ((c : Thread nD τ).loc main_arg2)) (ix2 j (⟨k.val, by omega⟩ : Fin 12488))
      * (((Real.sqrt 128)⁻¹ * (Real.log 2)⁻¹ : ℝ) : EReal) := by
  intro n
  induction n with
  | zero =>
    intro hn k j
    rw [← in2 m c ⟨0, hn⟩]
    have e := outsAt0_A m c ⟨0, hn⟩ rfl
    rw [show outsAt0 m c 0 hn = _ from e]
    frame_out
    pointwise [k0_pay1]
    exact congrArg _ (IdealRules.named_const.ideal_named_scalar _ _ _ _ rfl)
  | succ n ih =>
    intro hn k j
    have h8 : n + 1 < 8 := hn
    rw [← ih (by omega) k j]
    have e := outsAt0_B m c ⟨n + 1, hn⟩ (by show ¬ (n + 1) % 8 = 0; omega)
    rw [show outsAt0 m c (n + 1) hn = _ from e]
    rfl

theorem mul_sum_scale {n : ℕ} (a b : Fin n → EReal) (s : ℝ) (hs : 0 ≤ s) :
    ∑ j, a j * (b j * (s : EReal)) = (∑ j, a j * b j) * (s : EReal) := by
  rw [mul_comm]
  induction (Finset.univ : Finset (Fin n)) using Finset.induction_on with
  | empty => simp
  | insert x S hx ih =>
    rw [Finset.sum_insert hx, Finset.sum_insert hx, EReal.left_distrib_of_nonneg_of_ne_top (EReal.coe_nonneg.mpr hs) (EReal.coe_ne_top s), ih,
      ← mul_assoc, mul_comm (a x * b x)]

theorem scale_pos : 0 < Real.sqrt 128 * Real.log 2 :=
  mul_pos (Real.sqrt_pos.mpr (by norm_num)) (Real.log_pos (by norm_num))

theorem denom (x : EReal) : Ideal.div x (Ideal.sqrt 128 * Ideal.log 2) = x * (((Real.sqrt 128)⁻¹ * (Real.log 2)⁻¹ : ℝ) : EReal) := by
  have e1 : Ideal.sqrt (128 : EReal) = ((Real.sqrt 128 : ℝ) : EReal) := by
    show Ideal.sqrt ((128 : ℝ) : EReal) = _
    have : ¬ (128 : ℝ) < 0 := by norm_num
    exact if_neg this
  have e2 : Ideal.log (2 : EReal) = ((Real.log 2 : ℝ) : EReal) := by
    show Ideal.log ((2 : ℝ) : EReal) = _
    have : ¬ (2 : ℝ) ≤ 0 := by norm_num
    exact if_neg this
  rw [e1, e2, ← EReal.coe_mul, Ideal.div, if_neg (by exact_mod_cast scale_pos.ne'), ← EReal.coe_inv, mul_inv]

theorem scaleR (r : Fin 8192) (q : Fin 1024) :
    Cert.NormQReferenceIdeal.Read.val_main_v22 (F := Ideal) (ix2 r q) = Ideal.sqrt 128 * Ideal.log 2 := by
  have e1 : Ideal.ofBits .f32 0x43000000#32 = ((128 : ℝ) : EReal) := by simp [Ideal.ofBits, Ideal.ieee]; rw [← EReal.coe_mul]; norm_num
  have e2 : Ideal.ofBits .f32 0x40000000#32 = ((2 : ℝ) : EReal) := by simp [Ideal.ofBits, Ideal.ieee]; rw [← EReal.coe_mul]; norm_num
  show Ideal.sqrt (Ideal.ofBits .f32 0x43000000#32) * Ideal.log (Ideal.ofBits .f32 0x40000000#32) = _
  rw [e1, e2]
  rfl

/-- One entry of the queries, from the scaled weights. -/
theorem q_at (t : Fin cfg0.N) (w : FVec Ideal S1024x2048 .bf16)
    (hw : ∀ (k : Fin 1024) (j : Fin 2048), w (ix2 k j)
      = Cert.NormQReferenceIdeal.Read.val_main_v15 (F := Ideal) (m ((c : Thread nD τ).loc main_arg2)) (ix2 j (⟨k.val, by omega⟩ : Fin 12488))
        * (((Real.sqrt 128)⁻¹ * (Real.log 2)⁻¹ : ℝ) : EReal))
    (p : Fin 1024) (q : Fin 1024) (r : Fin 8192) (hr : r.val = t.val * 1024 + p.val) :
    k0_pay3 (iblk m c 0 t) (iblk m c 1 t) w (ix2 p q)
      = Cert.NormQReferenceIdeal.Read.val_main_v25 (F := Ideal) (m ((c : Thread nD τ).loc main_arg0)) (m ((c : Thread nD τ).loc main_arg1))
          (m ((c : Thread nD τ).loc main_arg2)) (ix2 r q) := by
  have h := fun x => h_at m c t p x r hr
  pointwise [k0_pay3, Cert.NormQReferenceIdeal.Read.val_main_v25, Cert.NormQReferenceIdeal.Read.val_main_v23,
    Cert.NormQReferenceIdeal.Read.val_main_v17, Cert.NormQReferenceIdeal.Read.val_main_v16]
  simp only [h, hw]
  rw [scaleR, denom]
  exact mul_sum_scale _ _ _ (by rw [← mul_inv]; exact (inv_pos.mpr scale_pos).le)

theorem final4 : (dats m 0 c).arrAt 4 (cfgs 0).N
    = Cert.NormQReferenceIdeal.Read.val_main_v25 (F := Ideal) (m ((c : Thread nD τ).loc main_arg0)) (m ((c : Thread nD τ).loc main_arg1))
        (m ((c : Thread nD τ).loc main_arg2)) := by
  refine (dats m 0 c).arrAt_eq_of_covers 4 _ (by decide +kernel) fun t _ y => ?_
  blk_simp
  rw [after0_4]
  obtain ⟨p, q, rfl⟩ : ∃ (p : Fin 1024) (q : Fin 1024), y = ix2 p q := ⟨y 0, y 1, by funext a; fin_cases a <;> rfl⟩
  have hN : t.val < 8 := t.isLt
  have e : ((cfg0.win 4).blk t).view.emb (ix2 p q) = ix2 (⟨t.val * 1024 + p.val, by omega⟩ : Fin 8192) q := by blk_ext [idx t]
  refine Eq.trans ?_ (congrArg _ e.symm)
  by_cases h : t.val % 8 = 0
  · have hs := scr m c t.val t.isLt
    rw [outsAt0_A m c t h] at hs ⊢
    refine Eq.trans ?_ (q_at m c t _ hs p q ⟨t.val * 1024 + p.val, by omega⟩ rfl)
    frame_out
  · refine Eq.trans ?_ (q_at m c t _ (scr m c (t.val - 1) (Nat.lt_of_le_of_lt (Nat.sub_le _ _) t.isLt)) p q ⟨t.val * 1024 + p.val, by omega⟩ rfl)
    rw [outsAt0_B m c t h]; frame_out
    exact congrArg (fun w => k0_pay3 (iblk m c 0 t) (iblk m c 1 t) w (ix2 p q)) (Memref.IsWhole.read_unread _ _)

end Cert.NormQIdeal.Final
-- ==== Proof.OutValue.lean ====
module

public import proofs.«01_k».proof.Proof.Gen.OutIdeal.Value
public import proofs.«01_k».proof.Proof.Gen.OutReferenceIdeal.Read
public import Idealize.ShloMosaic.Lib.Pipeline.ValueKit

/-! The merge kernel's result array is the reference's. -/

@[expose] public section

set_option maxRecDepth 16384

noncomputable section

namespace Cert.OutIdeal.Final

open Cert.OutIdeal Cert.OutIdeal.Gen Idealize.ShloMosaic Idealize.ShloMosaic.TcCoe Idealize.SL.Sem

variable (m : (ℓ : Loc nD τ sig) → Buf (Elt Ideal) ℓ) (c : Dev nD)

/-- The block each window holds at each grid point. -/
theorem idx : ∀ t : Fin cfg0.N, win0_0.index t = ![t.val, 0] ∧ win0_1.index t = ![t.val, 0]
    ∧ win0_2.index t = ![t.val, 0] ∧ win0_3.index t = ![t.val, 1] ∧ win0_4.index t = ![t.val, 0]
    ∧ win0_5.index t = ![0, 0] ∧ win0_6.index t = ![0, 0] ∧ win0_7.index t = ![0, 0]
    ∧ win0_8.index t = ![0, 0] ∧ win0_9.index t = ![t.val, 0] :=
  (by decide +kernel : ∀ t : Fin grid0.N, _)

theorem in2 (t : Fin cfg0.N) (p : Fin 256) (q : Fin 2048) (r : Fin 8192) (hr : r.val = t.val * 256 + p.val) :
    X0_2 m c t (ix2 p q) = m ((c : Thread nD τ).loc main_arg2) (ix2 r (⟨q.val, by omega⟩ : Fin 9216)) := by
  unfold X0_2 Pipeline.Window.fill
  rw [dif_pos (moved0_2 t _)]
  blk_point [iblk, Gen.V, idx t]

theorem in3 (t : Fin cfg0.N) (p : Fin 256) (q : Fin 2048) (r : Fin 8192) (hr : r.val = t.val * 256 + p.val) :
    X0_3 m c t (ix2 p q) = m ((c : Thread nD τ).loc main_arg2) (ix2 r (⟨2048 + q.val, by omega⟩ : Fin 9216)) := by
  unfold X0_3 Pipeline.Window.fill
  rw [dif_pos (moved0_3 t _)]
  blk_point [iblk, Gen.V, idx t]

theorem in4 (t : Fin cfg0.N) (p : Fin 256) (q : Fin 2048) (r : Fin 8192) (hr : r.val = t.val * 256 + p.val) :
    iblk m c 4 t (ix2 p q) = Cert.OutReferenceIdeal.Read.val_main_v23 (F := Ideal) (m ((c : Thread nD τ).loc main_arg3)) (ix2 r q) := by
  unfold Cert.OutReferenceIdeal.Read.val_main_v23
  blk_simp [iblk, idx t]
  entry_read
  have e : ((View.whole main_v0).slice (win0_4.rect t)).emb (ix2 p q) = ix2 r q := by blk_ext [idx t]
  exact congrArg _ e

theorem in8 (t : Fin cfg0.N) (q : Fin 2048) :
    iblk m c 8 t (ix2 (0 : Fin 1) q) = m ((c : Thread nD τ).loc main_arg7) (ix1 q) := by
  blk_simp [iblk, idx t]
  entry_read
  have e : ((View.whole main_v1).slice (win0_8.rect t)).emb (ix2 (0 : Fin 1) q) = ix2 (0 : Fin 1) q := by blk_ext [idx t]
  refine (congrArg _ e).trans ?_
  pointwise []

theorem gateR (x : FVec Ideal S8192x9216 .f32) (r : Fin 8192) (q : Fin 2048) :
    Cert.OutReferenceIdeal.Read.val_main_v7 (F := Ideal) x (ix2 r q)
      = Ideal.div 1 (1 + Ideal.exp (0 - x (ix2 r (⟨q.val, by omega⟩ : Fin 9216)))) := by
  rw [sub_eq_add_neg, zero_add]
  pointwise [Cert.OutReferenceIdeal.Read.val_main_v7, Cert.OutReferenceIdeal.Read.val_main_v6, Cert.OutReferenceIdeal.Read.val_main_v5,
    Cert.OutReferenceIdeal.Read.val_main_v4, Cert.OutReferenceIdeal.Read.val_main_v3, Cert.OutReferenceIdeal.Read.val_main_v2, Cert.OutReferenceIdeal.Read.val_main_v0,
    Cert.OutReferenceIdeal.Read.val_main_cst, Cert.OutReferenceIdeal.Read.val_main_cst_0]

theorem gateF (x : FVec Ideal S8192x9216 .f32) (r : Fin 8192) (q : Fin 2048) :
    Cert.OutReferenceIdeal.Read.val_main_v17 (F := Ideal) x (ix2 r q)
      = Ideal.div 1 (1 + Ideal.exp (0 - x (ix2 r (⟨2048 + q.val, by omega⟩ : Fin 9216)))) := by
  rw [sub_eq_add_neg, zero_add]
  pointwise [Cert.OutReferenceIdeal.Read.val_main_v17, Cert.OutReferenceIdeal.Read.val_main_v16, Cert.OutReferenceIdeal.Read.val_main_v15,
    Cert.OutReferenceIdeal.Read.val_main_v14, Cert.OutReferenceIdeal.Read.val_main_v13, Cert.OutReferenceIdeal.Read.val_main_v12, Cert.OutReferenceIdeal.Read.val_main_v1,
    Cert.OutReferenceIdeal.Read.val_main_cst_1, Cert.OutReferenceIdeal.Read.val_main_cst_2]

/-- One entry of the new residual stream. -/
theorem res_at (t : Fin cfg0.N) (p : Fin 256) (q : Fin 2048) (r : Fin 8192) (hr : r.val = t.val * 256 + p.val) :
    k0_pay2 (iblk m c 0 t) (iblk m c 5 t) (iblk m c 1 t) (iblk m c 6 t) (X0_2 m c t) (X0_3 m c t) (iblk m c 4 t) (iblk m c 7 t) (ix2 p q)
      = Cert.OutReferenceIdeal.Read.val_main_v26 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (ix2 r q) := by
  rw [Cert.OutReferenceIdeal.Read.val_main_v26_apply, ← in4 m c t p q r hr]
  pointwise [k0_pay2, Cert.OutReferenceIdeal.Read.val_main_v25, Cert.OutReferenceIdeal.Read.val_main_v24, Cert.OutReferenceIdeal.Read.val_main_v22,
    Cert.OutReferenceIdeal.Read.val_main_v21, Cert.OutReferenceIdeal.Read.val_main_v11, Cert.OutReferenceIdeal.Read.val_main_v20, Cert.OutReferenceIdeal.Read.val_main_v10,
    Cert.OutReferenceIdeal.Read.val_main_v19, Cert.OutReferenceIdeal.Read.val_main_v18, Cert.OutReferenceIdeal.Read.val_main_v9, Cert.OutReferenceIdeal.Read.val_main_v8]
  refine congrArg _ (Finset.sum_congr rfl fun x _ => ?_)
  rw [gateR, gateF, in2 m c t p x r hr, in3 m c t p x r hr]
  blk_point [iblk, Gen.V, idx t]

theorem final : (dats m 0 c).arrAt 9 (cfgs 0).N
    = Cert.OutReferenceIdeal.Read.val_main_v39 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  refine (dats m 0 c).arrAt_eq_of_covers 9 _ (by decide +kernel) fun t _ y => ?_
  blk_simp
  rw [after0_9]; unfold outsAt0; frame_out
  obtain ⟨p, q, rfl⟩ : ∃ (p : Fin 256) (q : Fin 2048), y = ix2 p q := ⟨y 0, y 1, by funext a; fin_cases a <;> rfl⟩
  have hN : t.val < 32 := t.isLt
  have e : ((cfg0.win 9).blk t).view.emb (ix2 p q) = ix2 (⟨t.val * 256 + p.val, by omega⟩ : Fin 8192) q := by blk_ext [idx t]
  refine Eq.trans ?_ (congrArg _ e.symm)
  have hres := fun q => res_at m c t p q ⟨t.val * 256 + p.val, by omega⟩ rfl
  pointwise [k0_pay1, k0_pay3, Cert.OutReferenceIdeal.Read.val_main_v39, Cert.OutReferenceIdeal.Read.val_main_v38, Cert.OutReferenceIdeal.Read.val_main_v37,
    Cert.OutReferenceIdeal.Read.val_main_v36, Cert.OutReferenceIdeal.Read.val_main_v35, Cert.OutReferenceIdeal.Read.val_main_v34, Cert.OutReferenceIdeal.Read.val_main_v33,
    Cert.OutReferenceIdeal.Read.val_main_v32, Cert.OutReferenceIdeal.Read.val_main_v31, Cert.OutReferenceIdeal.Read.val_main_v30, Cert.OutReferenceIdeal.Read.val_main_v29,
    Cert.OutReferenceIdeal.Read.val_main_v28, Cert.OutReferenceIdeal.Read.val_main_v27,
    Cert.OutReferenceIdeal.Read.val_main_cst_3, Cert.OutReferenceIdeal.Read.val_main_cst_4, Cert.OutReferenceIdeal.Read.val_main_cst_5]
  simp only [hres, in8 m c t]
-- ==== Proof.ProjStep.lean ====
module

public import proofs.«01_k».proof.Proof.Gen.ProjIdeal.Frame
public import proofs.«01_k».proof.Proof.Gen.ProjIdeal.Skeleton

@[expose] public section

set_option maxRecDepth 16384

noncomputable section

namespace Cert.ProjIdeal.Body

open Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The first row tile of a column tile: the point where the weights are loaded into the scratch. -/
abbrev fresh (i : grid0.Coords) : Prop :=
  Scalar.cmpi .ne (Scalar.extui (Scalar.cmpi .eq (BitVec.ofNat 32 (i 1).val) 0#32) : BitVec 32) 0#32 = 1#1

/-- A column tile of the keys, the values or the wide result. -/
abbrev wideTile (i : grid0.Coords) : Prop :=
  Scalar.cmpi .ne (Scalar.extui (Scalar.cmpi .slt (BitVec.ofNat 32 (i 0).val) 11#32) : BitVec 32) 0#32 = 1#1

/-- The last column tile, the small result's. -/
abbrev tailTile (i : grid0.Coords) : Prop :=
  Scalar.cmpi .ne (Scalar.extui (Scalar.cmpi .eq (BitVec.ofNat 32 (i 0).val) 11#32) : BitVec 32) 0#32 = 1#1

variable (c : Dev nD) (i : grid0.Coords)
  (arg2 : Memref sig .tc .vmem S1024x2048 .bf16) (harg2 : arg2.IsWhole)
  (arg3 : Memref sig .tc .vmem S1024x2048 .f32) (harg3 : arg3.IsWhole)
  (arg4 : Memref sig .tc .vmem S256x2048 .f32) (harg4 : arg4.IsWhole)
  (arg5 : Memref sig .tc .vmem S1024x1024 .bf16) (harg5 : arg5.IsWhole)
  (arg6 : Memref sig .tc .vmem S1024x1024 .f32) (harg6 : arg6.IsWhole)
  (arg7 : Memref sig .tc .vmem S1024x256 .f32) (harg7 : arg7.IsWhole)
  (arg8 : Memref sig .tc .vmem S1024x2048 .bf16) (harg8 : arg8.IsWhole)
  (A : Vec F S1024x2048 .bf16) (B : Vec F S1024x2048 .f32) (T : Vec F S256x2048 .f32)
  (Y3 : Vec F S1024x1024 .bf16) (Y4 : Vec F S1024x1024 .f32) (Y5 : Vec F S1024x256 .f32)
  (S : Vec F S1024x2048 .bf16)

/-- What the body works on: the three inputs, the three results and the scratch, each whole. -/
def holds (A : Vec F S1024x2048 .bf16) (B : Vec F S1024x2048 .f32) (T : Vec F S256x2048 .f32)
    (Y3 : Vec F S1024x1024 .bf16) (Y4 : Vec F S1024x1024 .f32) (Y5 : Vec F S1024x256 .f32)
    (S : Vec F S1024x2048 .bf16) : sProp 𝕄 :=
  iprop(owns (c : Thread nD τ) arg2 fullShare A ∗ owns (c : Thread nD τ) arg3 fullShare B
    ∗ owns (c : Thread nD τ) arg4 fullShare T ∗ owns (c : Thread nD τ) arg5 fullShare Y3
    ∗ owns (c : Thread nD τ) arg6 fullShare Y4 ∗ owns (c : Thread nD τ) arg7 fullShare Y5
    ∗ owns (c : Thread nD τ) arg8 fullShare S)

/-- The rows of the scratch the last column tile uses. -/
abbrev topRect : Rect S1024x2048 := Rect.unit ![0, 0] S256x2048.size inb_S1024x2048_S256x2048_0_0

/-- The scratch's first 256 rows. -/
def top (S : Vec F S1024x2048 .bf16) : Vec F S256x2048 .bf16 := fun y => S (topRect.emb y)

/-- A load of all of a memref reads it. -/
theorem load_all {sp : Space} {s : Shape} {e : EltTy} (v : View sig .tc sp s e) {off : Fin s.rank → ℕ}
    (h : ∀ a, off a = 0) (inb : ∀ a, off a + s.size a ≤ s.size a) (f : v.ty.Contents (Elt F)) :
    View.readAt (Elt F) v (Rect.unit off s.size inb).toLoadRect f = View.read (Elt F) v f := by
  funext x
  rw [View.readAt_apply]
  refine congrArg _ ?_
  funext a
  apply Fin.ext
  show off a + 1 * (x a).val = (x a).val
  rw [h a]; omega

/-- A store over all of a memref leaves what was stored. -/
theorem store_all {sp : Space} {s : Shape} {e : EltTy} (v : View sig .tc sp s e) {off : Fin s.rank → ℕ}
    (h : ∀ a, off a = 0) (inb : ∀ a, off a + s.size a ≤ s.size a) (f : v.ty.Contents (Elt F)) (w : s.Idx → Elt F e) :
    View.read (Elt F) v (v.writes (Elt F) f [⟨Rect.unit off s.size inb, w⟩]) = w := by
  funext y
  refine View.read_writes_cons_hit v f (Rect.unit off s.size inb) w [] y y ?_
  funext a
  apply Fin.ext
  show off a + 1 * (y a).val = (y a).val
  rw [h a]; omega

theorem off0 (a : Fin 2) : (![0, 0] : Fin 2 → ℕ) a = 0 := by fin_cases a <;> rfl

set_option maxHeartbeats 1000000 in
/-- The first point of a column tile of the keys or the values: the scratch is loaded, then used. -/
theorem step_kv_fresh (h1 : fresh i) (h2 : wideTile i) (h3 : ¬ tailTile i)
    (h4 : k0_cond4 i = 1#1) (h5 : ¬ k0_cond5 i = 1#1) (h6 : ¬ k0_cond6 i = 1#1) (K : PUnit → sProp 𝕄) :
    iprop(holds c arg2 arg3 arg4 arg5 arg6 arg7 arg8 A B T Y3 Y4 Y5 S
      ∗ (holds c arg2 arg3 arg4 arg5 arg6 arg7 arg8 A B T (k0_pay3 (k0_pay1 B) A) Y4 Y5 (k0_pay1 B) -∗ K ⟨⟩))
    ⊢ wp frame (wpE (defs₀ (F := F)) Variants.none c none) Set.univ
        (cc0_in_proj i arg2 harg2 arg3 harg3 arg4 harg4 arg5 harg5 arg6 harg6 arg7 harg7 arg8 harg8) K := by
  simp only [cc0_in_proj_eq_skeleton]; unfold cc0_in_proj_skel
  unfold holds owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩⟩, Hk⟩
  obtain rfl := harg2.eq_unread hf0; obtain rfl := harg3.eq_unread hf1; obtain rfl := harg4.eq_unread hf2
  obtain rfl := harg8.eq_unread hfs
  sl_exec (disch := first | sl_exact h1 | sl_exact h2 | sl_exact h3 | sl_exact h4 | sl_exact h5 | sl_exact h6)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    refine (store_all _ off0 _ _ _).trans (congrArg₂ k0_pay3 ?_ ?_)
    · exact (View.readCov_cons_toLoadRect arg8.view _ _ _).trans
        (congrArg k0_pay1 ((load_all _ off0 _ _).trans (harg3.read_unread B)))
    · exact (load_all _ off0 _ _).trans (harg2.read_unread A)
  isplitl [H4]
  · iexists _; isplitr; · ipureintro; exact hf4
    iexact H4
  isplitl [H5]
  · iexists _; isplitr; · ipureintro; exact hf5
    iexact H5
  iexists _; isplitr; swap; · iexact HS
  ipureintro
  refine (store_all _ off0 _ _ _).trans (congrArg k0_pay1 ?_)
  exact (load_all _ off0 _ _).trans (harg3.read_unread B)

set_option maxHeartbeats 1000000 in
/-- A later point of a column tile of the keys or the values: the scratch is used as it is. -/
theorem step_kv_kept (h1 : ¬ fresh i)
    (h4 : k0_cond4 i = 1#1) (h5 : ¬ k0_cond5 i = 1#1) (h6 : ¬ k0_cond6 i = 1#1) (K : PUnit → sProp 𝕄) :
    iprop(holds c arg2 arg3 arg4 arg5 arg6 arg7 arg8 A B T Y3 Y4 Y5 S
      ∗ (holds c arg2 arg3 arg4 arg5 arg6 arg7 arg8 A B T (k0_pay3 S A) Y4 Y5 S -∗ K ⟨⟩))
    ⊢ wp frame (wpE (defs₀ (F := F)) Variants.none c none) Set.univ
        (cc0_in_proj i arg2 harg2 arg3 harg3 arg4 harg4 arg5 harg5 arg6 harg6 arg7 harg7 arg8 harg8) K := by
  simp only [cc0_in_proj_eq_skeleton]; unfold cc0_in_proj_skel
  unfold holds owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩⟩, Hk⟩
  obtain rfl := harg2.eq_unread hf0; obtain rfl := harg3.eq_unread hf1; obtain rfl := harg4.eq_unread hf2
  obtain rfl := harg8.eq_unread hfs
  sl_exec (disch := first | sl_exact h1 | sl_exact h4 | sl_exact h5 | sl_exact h6)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    refine (store_all _ off0 _ _ _).trans (congrArg₂ k0_pay3 ?_ ?_)
    · exact (load_all _ off0 _ _).trans (harg8.read_unread S)
    · exact (load_all _ off0 _ _).trans (harg2.read_unread A)
  isplitl [H4]
  · iexists _; isplitr; · ipureintro; exact hf4
    iexact H4
  isplitl [H5]
  · iexists _; isplitr; · ipureintro; exact hf5
    iexact H5
  iexists _; isplitr; swap; · iexact HS
  ipureintro
  exact harg8.read_unread _

set_option maxHeartbeats 1000000 in
/-- The first point of a column tile of the wide result: the scratch is loaded, then used. -/
theorem step_wide_fresh (h1 : fresh i) (h2 : wideTile i) (h3 : ¬ tailTile i)
    (h4 : ¬ k0_cond4 i = 1#1) (h5 : k0_cond5 i = 1#1) (h6 : ¬ k0_cond6 i = 1#1) (K : PUnit → sProp 𝕄) :
    iprop(holds c arg2 arg3 arg4 arg5 arg6 arg7 arg8 A B T Y3 Y4 Y5 S
      ∗ (holds c arg2 arg3 arg4 arg5 arg6 arg7 arg8 A B T Y3 (k0_pay4 (k0_pay1 B) A) Y5 (k0_pay1 B) -∗ K ⟨⟩))
    ⊢ wp frame (wpE (defs₀ (F := F)) Variants.none c none) Set.univ
        (cc0_in_proj i arg2 harg2 arg3 harg3 arg4 harg4 arg5 harg5 arg6 harg6 arg7 harg7 arg8 harg8) K := by
  simp only [cc0_in_proj_eq_skeleton]; unfold cc0_in_proj_skel
  unfold holds owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩⟩, Hk⟩
  obtain rfl := harg2.eq_unread hf0; obtain rfl := harg3.eq_unread hf1; obtain rfl := harg4.eq_unread hf2
  obtain rfl := harg8.eq_unread hfs
  sl_exec (disch := first | sl_exact h1 | sl_exact h2 | sl_exact h3 | sl_exact h4 | sl_exact h5 | sl_exact h6)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact hf3
    iexact H3
  isplitl [H4]
  · iexists _; isplitr; swap; · iexact H4
    ipureintro
    refine (store_all _ off0 _ _ _).trans (congrArg₂ k0_pay4 ?_ ?_)
    · exact (View.readCov_cons_toLoadRect arg8.view _ _ _).trans
        (congrArg k0_pay1 ((load_all _ off0 _ _).trans (harg3.read_unread B)))
    · exact (load_all _ off0 _ _).trans (harg2.read_unread A)
  isplitl [H5]
  · iexists _; isplitr; · ipureintro; exact hf5
    iexact H5
  iexists _; isplitr; swap; · iexact HS
  ipureintro
  refine (store_all _ off0 _ _ _).trans (congrArg k0_pay1 ?_)
  exact (load_all _ off0 _ _).trans (harg3.read_unread B)

set_option maxHeartbeats 1000000 in
/-- A later point of a column tile of the wide result: the scratch is used as it is. -/
theorem step_wide_kept (h1 : ¬ fresh i)
    (h4 : ¬ k0_cond4 i = 1#1) (h5 : k0_cond5 i = 1#1) (h6 : ¬ k0_cond6 i = 1#1) (K : PUnit → sProp 𝕄) :
    iprop(holds c arg2 arg3 arg4 arg5 arg6 arg7 arg8 A B T Y3 Y4 Y5 S
      ∗ (holds c arg2 arg3 arg4 arg5 arg6 arg7 arg8 A B T Y3 (k0_pay4 S A) Y5 S -∗ K ⟨⟩))
    ⊢ wp frame (wpE (defs₀ (F := F)) Variants.none c none) Set.univ
        (cc0_in_proj i arg2 harg2 arg3 harg3 arg4 harg4 arg5 harg5 arg6 harg6 arg7 harg7 arg8 harg8) K := by
  simp only [cc0_in_proj_eq_skeleton]; unfold cc0_in_proj_skel
  unfold holds owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩⟩, Hk⟩
  obtain rfl := harg2.eq_unread hf0; obtain rfl := harg3.eq_unread hf1; obtain rfl := harg4.eq_unread hf2
  obtain rfl := harg8.eq_unread hfs
  sl_exec (disch := first | sl_exact h1 | sl_exact h4 | sl_exact h5 | sl_exact h6)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact hf3
    iexact H3
  isplitl [H4]
  · iexists _; isplitr; swap; · iexact H4
    ipureintro
    refine (store_all _ off0 _ _ _).trans (congrArg₂ k0_pay4 ?_ ?_)
    · exact (load_all _ off0 _ _).trans (harg8.read_unread S)
    · exact (load_all _ off0 _ _).trans (harg2.read_unread A)
  isplitl [H5]
  · iexists _; isplitr; · ipureintro; exact hf5
    iexact H5
  iexists _; isplitr; swap; · iexact HS
  ipureintro
  exact harg8.read_unread _

set_option maxHeartbeats 1000000 in
/-- The first point of the last column tile: the scratch is loaded, then used. -/
theorem step_tail_fresh (h1 : fresh i) (h2 : ¬ wideTile i) (h3 : tailTile i)
    (h4 : ¬ k0_cond4 i = 1#1) (h5 : ¬ k0_cond5 i = 1#1) (h6 : k0_cond6 i = 1#1) (K : PUnit → sProp 𝕄) :
    iprop(holds c arg2 arg3 arg4 arg5 arg6 arg7 arg8 A B T Y3 Y4 Y5 S
      ∗ ((∃ S', ⌜top S' = k0_pay2 T⌝ ∗ holds c arg2 arg3 arg4 arg5 arg6 arg7 arg8 A B T Y3 Y4 (k0_pay5 (k0_pay2 T) A) S') -∗ K ⟨⟩))
    ⊢ wp frame (wpE (defs₀ (F := F)) Variants.none c none) Set.univ
        (cc0_in_proj i arg2 harg2 arg3 harg3 arg4 harg4 arg5 harg5 arg6 harg6 arg7 harg7 arg8 harg8) K := by
  simp only [cc0_in_proj_eq_skeleton]; unfold cc0_in_proj_skel
  unfold holds owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩⟩, Hk⟩
  obtain rfl := harg2.eq_unread hf0; obtain rfl := harg3.eq_unread hf1; obtain rfl := harg4.eq_unread hf2
  obtain rfl := harg8.eq_unread hfs
  sl_exec (disch := first | sl_exact h1 | sl_exact h2 | sl_exact h3 | sl_exact h4 | sl_exact h5 | sl_exact h6)
  sl_step
  iapply Hk
  iexists (View.read (Elt F) arg8.view (arg8.view.writes (Elt F) (harg8.unread S) (step_tail_fresh.sl.HS_1 c arg4 harg4 T)))
  isplitr
  · ipureintro
    have e : step_tail_fresh.sl.HS_1 c arg4 harg4 T = [⟨topRect, k0_pay2 T⟩] :=
      congrArg (fun x => [(⟨topRect, k0_pay2 x⟩ : View.Piece (Elt F) S1024x2048 .bf16)])
        ((load_all _ off0 _ _).trans (harg4.read_unread T))
    rw [e]
    funext y
    exact View.read_writes_cons_emb _ _ topRect _ _ y
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact hf3
    iexact H3
  isplitl [H4]
  · iexists _; isplitr; · ipureintro; exact hf4
    iexact H4
  isplitl [H5]
  · iexists _; isplitr; swap; · iexact H5
    ipureintro
    refine (store_all _ off0 _ _ _).trans (congrArg₂ k0_pay5 ?_ ?_)
    · exact (View.readCov_cons_toLoadRect arg8.view topRect _ _).trans
        (congrArg k0_pay2 ((load_all _ off0 _ _).trans (harg4.read_unread T)))
    · exact (load_all _ off0 _ _).trans (harg2.read_unread A)
  iexists _; isplitr; swap; · iexact HS
  ipureintro
  rfl

set_option maxHeartbeats 1000000 in
/-- A later point of the last column tile: the scratch is used as it is. -/
theorem step_tail_kept (h1 : ¬ fresh i)
    (h4 : ¬ k0_cond4 i = 1#1) (h5 : ¬ k0_cond5 i = 1#1) (h6 : k0_cond6 i = 1#1) (K : PUnit → sProp 𝕄) :
    iprop(holds c arg2 arg3 arg4 arg5 arg6 arg7 arg8 A B T Y3 Y4 Y5 S
      ∗ (holds c arg2 arg3 arg4 arg5 arg6 arg7 arg8 A B T Y3 Y4 (k0_pay5 (top S) A) S -∗ K ⟨⟩))
    ⊢ wp frame (wpE (defs₀ (F := F)) Variants.none c none) Set.univ
        (cc0_in_proj i arg2 harg2 arg3 harg3 arg4 harg4 arg5 harg5 arg6 harg6 arg7 harg7 arg8 harg8) K := by
  simp only [cc0_in_proj_eq_skeleton]; unfold cc0_in_proj_skel
  unfold holds owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩⟩, Hk⟩
  obtain rfl := harg2.eq_unread hf0; obtain rfl := harg3.eq_unread hf1; obtain rfl := harg4.eq_unread hf2
  obtain rfl := harg8.eq_unread hfs
  sl_exec (disch := first | sl_exact h1 | sl_exact h4 | sl_exact h5 | sl_exact h6)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact hf3
    iexact H3
  isplitl [H4]
  · iexists _; isplitr; · ipureintro; exact hf4
    iexact H4
  isplitl [H5]
  · iexists _; isplitr; swap; · iexact H5
    ipureintro
    refine (store_all _ off0 _ _ _).trans (congrArg₂ k0_pay5 ?_ ?_)
    · exact funext fun y => (View.readAt_apply _ _ y).trans (congrFun (harg8.read_unread S) _)
    · exact (load_all _ off0 _ _).trans (harg2.read_unread A)
  iexists _; isplitr; swap; · iexact HS
  ipureintro
  exact harg8.read_unread _

end Cert.ProjIdeal.Body

end
-- ==== Proof.ProjFrame.lean ====
module

public import proofs.«01_k».proof.Proof.ProjStep
public import Idealize.ShloMosaic.Lib.Claim

@[expose] public section

set_option maxRecDepth 16384

noncomputable section

namespace Cert.ProjIdeal.Body

open Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule, decided over the grid's 96 points -/

theorem fresh_iff : ∀ t : Fin grid0.N, fresh (grid0.coords t) ↔ t.val % 8 = 0 := by decide +kernel
theorem wide_iff : ∀ t : Fin grid0.N, wideTile (grid0.coords t) ↔ t.val < 88 := by decide +kernel
theorem tail_iff : ∀ t : Fin grid0.N, tailTile (grid0.coords t) ↔ 88 ≤ t.val := by decide +kernel
theorem cond4_iff : ∀ t : Fin grid0.N, k0_cond4 (grid0.coords t) = 1#1 ↔ t.val < 16 := by decide +kernel
theorem cond5_iff : ∀ t : Fin grid0.N, k0_cond5 (grid0.coords t) = 1#1 ↔ 16 ≤ t.val ∧ t.val < 88 := by decide +kernel
theorem cond6_iff : ∀ t : Fin grid0.N, k0_cond6 (grid0.coords t) = 1#1 ↔ 88 ≤ t.val := by decide +kernel
theorem flush3 : ∀ t : Fin grid0.N, win0_3.flush t = (decide (t.val < 15) || decide (t.val = 95)) := by decide +kernel
theorem flush4 : ∀ t : Fin grid0.N, win0_4.flush t = (decide (16 ≤ t.val ∧ t.val < 87) || decide (t.val = 95)) := by
  decide +kernel
theorem flush5 : ∀ t : Fin grid0.N, win0_5.flush t = decide (88 ≤ t.val) := by decide +kernel
theorem idle3 : ∀ t : Fin grid0.N, idle0 3 (grid0.coords t) = decide (16 ≤ t.val) := by decide +kernel
theorem idle4 : ∀ t : Fin grid0.N, idle0 4 (grid0.coords t) = decide (t.val < 16 ∨ 88 ≤ t.val) := by decide +kernel
theorem idle5 : ∀ t : Fin grid0.N, idle0 5 (grid0.coords t) = decide (t.val < 88) := by decide +kernel

/-! ## What every point leaves -/

/-- The first point of `t`'s column tile, where its weights are loaded. -/
def rep (t : Fin cfg0.N) : Fin cfg0.N := ⟨t.val / 8 * 8, by have := t.isLt; omega⟩

/-- The last point up to `t` that stores the keys and values. -/
def lastKv (t : Fin cfg0.N) : Fin cfg0.N := ⟨min t.val 15, by have := t.isLt; omega⟩

/-- The last point up to `t` that stores the wide result. -/
def lastWide (t : Fin cfg0.N) : Fin cfg0.N := ⟨min t.val 87, by have := t.isLt; omega⟩

def kvAt (c : Dev nD) (t : Fin cfg0.N) : Vec F S1024x1024 .bf16 := k0_pay3 (k0_pay1 (iblk m c 1 (rep t))) (iblk m c 0 t)
def wideAt (c : Dev nD) (t : Fin cfg0.N) : Vec F S1024x1024 .f32 := k0_pay4 (k0_pay1 (iblk m c 1 (rep t))) (iblk m c 0 t)
def smallAt (c : Dev nD) (t : Fin cfg0.N) : Vec F S1024x256 .f32 := k0_pay5 (k0_pay2 (iblk m c 2 (rep t))) (iblk m c 0 t)

/-- What the scratch holds after point `t`: the tile's weights, the last tile's in its first rows. -/
def Loaded (c : Dev nD) (t : Fin cfg0.N) (S : Vec F S1024x2048 .bf16) : Prop :=
  (t.val < 88 → S = k0_pay1 (iblk m c 1 (rep t))) ∧ (88 ≤ t.val → top S = k0_pay2 (iblk m c 2 (rep t)))

theorem rep_of_fresh (t : Fin cfg0.N) (h : t.val % 8 = 0) : rep t = t := Fin.ext (by show t.val / 8 * 8 = t.val; omega)

/-- Within a tile the scratch stays loaded. -/
theorem Loaded.next {c : Dev nD} {t : Fin cfg0.N} {S : Vec F S1024x2048 .bf16} (n : ℕ) (hn : n < cfg0.N) (ht : t.val = n + 1)
    (h : t.val % 8 ≠ 0) (H : Loaded m c ⟨n, hn⟩ S) : Loaded m c t S := by
  have e : rep t = rep ⟨n, hn⟩ := Fin.ext (by show t.val / 8 * 8 = n / 8 * 8; omega)
  unfold Loaded; rw [e]
  exact ⟨fun h' => H.1 (by show n < 88; omega), fun h' => H.2 (by show 88 ≤ n; omega)⟩

/-- The scratch of the call. -/
abbrev scratch : Memref sig .tc .vmem S1024x2048 .bf16 := Memref.whole cc0_scratch0

/-- Between points: at first anything in the scratch, afterwards what the last point left loaded. -/
def Between (c : Dev nD) : (n : ℕ) → n ≤ cfg0.N → sProp 𝕄
  | 0, _ => Pipeline.ΦA spec0 c
  | n + 1, hn => iprop((∃ S, ⌜Loaded m c ⟨n, hn⟩ S⌝ ∗ owns (c : Thread nD τ) scratch fullShare S) ∗ (∃ r, prngReg c r))

theorem anything (c : Dev nD) : (Pipeline.ΦA spec0 c : sProp 𝕄)
    = iprop((∃ S, owns (c : Thread nD τ) scratch fullShare S) ∗ (∃ r, prngReg c r)) := by
  unfold Pipeline.ΦA; rw [scopedRest0_eq]; simp only [scratch, owns_whole]; try rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => kvAt m c (lastKv t)
    | ⟨4, _⟩ => wideAt m c (lastWide t)
    | ⟨5, _⟩ => smallAt m c t
  Φ t := Between m c t.val (Nat.le_of_lt_succ t.isLt)
  q _ := fullShare
  owed _ := 0

theorem arrays (c : Dev nD) (w : Fin cfg0.W) : (dats m 0 c).A w = V m c (Pipeline.arrRef spec0 w) := by dsimp only [dats]

theorem left0 (c : Dev nD) (t : Fin cfg0.N) : (dats m 0 c).after 0 t = iblk m c 0 t := by dsimp only [dats]
theorem left1 (c : Dev nD) (t : Fin cfg0.N) : (dats m 0 c).after 1 t = iblk m c 1 t := by dsimp only [dats]
theorem left2 (c : Dev nD) (t : Fin cfg0.N) : (dats m 0 c).after 2 t = iblk m c 2 t := by dsimp only [dats]
theorem left3 (c : Dev nD) (t : Fin cfg0.N) : (dats m 0 c).after 3 t = kvAt m c (lastKv t) := by dsimp only [dats]
theorem left4 (c : Dev nD) (t : Fin cfg0.N) : (dats m 0 c).after 4 t = wideAt m c (lastWide t) := by dsimp only [dats]
theorem left5 (c : Dev nD) (t : Fin cfg0.N) : (dats m 0 c).after 5 t = smallAt m c t := by dsimp only [dats]

/-! ## The results' buffers at the points that store nothing into them -/

/-- After its last store, the buffer of the keys and values holds that store's value until the end. -/
theorem stays3 (c : Dev nD) (d : (cfg0.win 3).block.Idx → Elt F (cfg0.win 3).elt) : ∀ (n : ℕ) (h : n < cfg0.N), 15 < n →
    (dats m 0 c).before 3 ⟨n, h⟩ d = kvAt m c ⟨15, by have : cfg0.N = 96 := N_0; omega⟩
  | 0, _, h0 => absurd h0 (Nat.not_lt_zero _)
  | n + 1, h, hn => by
    have hN : cfg0.N = 96 := N_0
    have hlt : n < cfg0.N := by omega
    rw [(dats m 0 c).before_of_pos 3 ⟨n + 1, h⟩ (Nat.succ_ne_zero n) rfl d]
    have hf : (cfg0.win 3).flush ⟨n, hlt⟩ = false := (flush3 ⟨n, hlt⟩).trans (by simp; omega)
    refine (if_neg (show ¬ (cfg0.win 3).flush ⟨n, hlt⟩ = true by rw [hf]; exact Bool.false_ne_true)).trans ?_
    show (dats m 0 c).left 3 ⟨n, hlt⟩ d = _
    unfold Dat.left
    by_cases hs : n = 15
    · have hi : cfg0.idle 3 (cfg0.grid.coords ⟨n, hlt⟩) = false := (idle3 ⟨n, hlt⟩).trans (by simp; omega)
      rw [hi]
      show (dats m 0 c).kept 3 ⟨n, hlt⟩ d = _
      refine Eq.trans (b := (dats m 0 c).after 3 ⟨n, hlt⟩) rfl ?_
      rw [left3]
      exact congrArg _ (Fin.ext (by show min n 15 = 15; omega))
    · have hi : cfg0.idle 3 (cfg0.grid.coords ⟨n, hlt⟩) = true := (idle3 ⟨n, hlt⟩).trans (by simp; omega)
      rw [hi]
      exact stays3 c d n hlt (by omega)

/-- A point that stores nothing into the buffer of the keys and values hands it back as it is due. -/
theorem idle_leaves3 (c : Dev nD) (t : Fin cfg0.N) (h : 16 ≤ t.val) (d) :
    owns (c : Thread nD τ) (st0_3 t) fullShare ((dats m 0 c).before 3 t d) ⊢ (dats m 0 c).leavesExact 3 t := by
  have hi : cfg0.idle 3 (cfg0.grid.coords t) = true := (idle3 t).trans (by simp; omega)
  by_cases ht : t.val = 95
  · have hf : (cfg0.win 3).flush t = true := (flush3 t).trans (by simp; omega)
    unfold Dat.leavesExact; rw [hi, hf]
    have e : (dats m 0 c).before 3 t d = (dats m 0 c).after 3 t := by
      rw [left3]
      refine (stays3 m c d t.val t.isLt (by omega)).trans ?_
      exact congrArg _ (Fin.ext (by show 15 = min t.val 15; omega))
    rw [e]
  · have hf : (cfg0.win 3).flush t = false := (flush3 t).trans (by simp; omega)
    rw [(dats m 0 c).leavesExact_idle 3 t hi hf]
    iintro H; iexists d; iexact H

/-- After its last store, the buffer of the wide result holds that store's value until the end. -/
theorem stays4 (c : Dev nD) (d : (cfg0.win 4).block.Idx → Elt F (cfg0.win 4).elt) : ∀ (n : ℕ) (h : n < cfg0.N), 87 < n →
    (dats m 0 c).before 4 ⟨n, h⟩ d = wideAt m c ⟨87, by have : cfg0.N = 96 := N_0; omega⟩
  | 0, _, h0 => absurd h0 (Nat.not_lt_zero _)
  | n + 1, h, hn => by
    have hN : cfg0.N = 96 := N_0
    have hlt : n < cfg0.N := by omega
    rw [(dats m 0 c).before_of_pos 4 ⟨n + 1, h⟩ (Nat.succ_ne_zero n) rfl d]
    have hf : (cfg0.win 4).flush ⟨n, hlt⟩ = false := (flush4 ⟨n, hlt⟩).trans (by simp; omega)
    refine (if_neg (show ¬ (cfg0.win 4).flush ⟨n, hlt⟩ = true by rw [hf]; exact Bool.false_ne_true)).trans ?_
    show (dats m 0 c).left 4 ⟨n, hlt⟩ d = _
    unfold Dat.left
    by_cases hs : n = 87
    · have hi : cfg0.idle 4 (cfg0.grid.coords ⟨n, hlt⟩) = false := (idle4 ⟨n, hlt⟩).trans (by simp; omega)
      rw [hi]
      show (dats m 0 c).kept 4 ⟨n, hlt⟩ d = _
      refine Eq.trans (b := (dats m 0 c).after 4 ⟨n, hlt⟩) rfl ?_
      rw [left4]
      exact congrArg _ (Fin.ext (by show min n 87 = 87; omega))
    · have hi : cfg0.idle 4 (cfg0.grid.coords ⟨n, hlt⟩) = true := (idle4 ⟨n, hlt⟩).trans (by simp; omega)
      rw [hi]
      exact stays4 c d n hlt (by omega)

/-- A point that stores nothing into the buffer of the wide result hands it back as it is due. -/
theorem idle_leaves4 (c : Dev nD) (t : Fin cfg0.N) (h : t.val < 16 ∨ 88 ≤ t.val) (d) :
    owns (c : Thread nD τ) (st0_4 t) fullShare ((dats m 0 c).before 4 t d) ⊢ (dats m 0 c).leavesExact 4 t := by
  have hi : cfg0.idle 4 (cfg0.grid.coords t) = true := (idle4 t).trans (by simp; omega)
  by_cases ht : t.val = 95
  · have hf : (cfg0.win 4).flush t = true := (flush4 t).trans (by simp; omega)
    unfold Dat.leavesExact; rw [hi, hf]
    have e : (dats m 0 c).before 4 t d = (dats m 0 c).after 4 t := by
      rw [left4]
      refine (stays4 m c d t.val t.isLt (by omega)).trans ?_
      exact congrArg _ (Fin.ext (by show 87 = min t.val 87; omega))
    rw [e]
  · have hf : (cfg0.win 4).flush t = false := (flush4 t).trans (by simp; omega)
    rw [(dats m 0 c).leavesExact_idle 4 t hi hf]
    iintro H; iexists d; iexact H

/-- Before the last tile the buffer of the small result is handed back as found. -/
theorem idle_leaves5 (c : Dev nD) (t : Fin cfg0.N) (h : t.val < 88) (d) :
    owns (c : Thread nD τ) (st0_5 t) fullShare ((dats m 0 c).before 5 t d) ⊢ (dats m 0 c).leavesExact 5 t := by
  have hi : cfg0.idle 5 (cfg0.grid.coords t) = true := (idle5 t).trans (by simp; omega)
  have hf : (cfg0.win 5).flush t = false := (flush5 t).trans (by simp; omega)
  rw [(dats m 0 c).leavesExact_idle 5 t hi hf]
  iintro H; iexists d; iexact H

theorem stored_leaves3 (c : Dev nD) (t : Fin cfg0.N) (h : t.val < 16) :
    (dats m 0 c).leavesExact 3 t = owns (c : Thread nD τ) (st0_3 t) fullShare (kvAt m c t) := by
  have hi : cfg0.idle 3 (cfg0.grid.coords t) = false := (idle3 t).trans (by simp; omega)
  unfold Dat.leavesExact; rw [hi, left3]
  rw [show lastKv t = t from Fin.ext (by show min t.val 15 = t.val; omega)]

theorem stored_leaves4 (c : Dev nD) (t : Fin cfg0.N) (h : 16 ≤ t.val ∧ t.val < 88) :
    (dats m 0 c).leavesExact 4 t = owns (c : Thread nD τ) (st0_4 t) fullShare (wideAt m c t) := by
  have hi : cfg0.idle 4 (cfg0.grid.coords t) = false := (idle4 t).trans (by simp; omega)
  unfold Dat.leavesExact; rw [hi, left4]
  rw [show lastWide t = t from Fin.ext (by show min t.val 87 = t.val; omega)]

theorem stored_leaves5 (c : Dev nD) (t : Fin cfg0.N) (h : 88 ≤ t.val) :
    (dats m 0 c).leavesExact 5 t = owns (c : Thread nD τ) (st0_5 t) fullShare (smallAt m c t) := by
  have hi : cfg0.idle 5 (cfg0.grid.coords t) = false := (idle5 t).trans (by simp; omega)
  unfold Dat.leavesExact; rw [hi, left5]

/-! ## The body at a point -/

/-- What a point hands back, the scratch loaded. -/
def Done (c : Dev nD) (t : Fin cfg0.N) : sProp 𝕄 :=
  iprop(owns (c : Thread nD τ) (st0_0 t) fullShare (iblk m c 0 t) ∗ owns (c : Thread nD τ) (st0_1 t) fullShare (iblk m c 1 t)
    ∗ owns (c : Thread nD τ) (st0_2 t) fullShare (iblk m c 2 t) ∗ (dats m 0 c).leavesExact 3 t
    ∗ (dats m 0 c).leavesExact 4 t ∗ (dats m 0 c).leavesExact 5 t
    ∗ (∃ S, ⌜Loaded m c t S⌝ ∗ owns (c : Thread nD τ) scratch fullShare S))

set_option maxHeartbeats 1600000 in
theorem point (c : Dev nD) (t : Fin cfg0.N) (S : Vec F S1024x2048 .bf16) (hS : t.val % 8 ≠ 0 → Loaded m c t S)
    (d3 : (cfg0.win 3).block.Idx → Elt F (cfg0.win 3).elt) (d4 : (cfg0.win 4).block.Idx → Elt F (cfg0.win 4).elt)
    (d5 : (cfg0.win 5).block.Idx → Elt F (cfg0.win 5).elt) (K : PUnit → sProp 𝕄) :
    iprop(holds c (st0_0 t) (st0_1 t) (st0_2 t) (st0_3 t) (st0_4 t) (st0_5 t) scratch (iblk m c 0 t) (iblk m c 1 t) (iblk m c 2 t)
        ((dats m 0 c).before 3 t d3) ((dats m 0 c).before 4 t d4) ((dats m 0 c).before 5 t d5) S
      ∗ (Done m c t -∗ K ⟨⟩))
    ⊢ wp frame (wpE (defs₀ (F := F)) Variants.none c none) Set.univ (bodyAt0 t) K := by
  unfold bodyAt0
  have i1 := fresh_iff t
  have i2 := wide_iff t
  have i3 := tail_iff t
  have i4 := cond4_iff t
  have i5 := cond5_iff t
  have i6 := cond6_iff t
  by_cases h1 : t.val % 8 = 0
  · rcases (by omega : t.val < 16 ∨ (16 ≤ t.val ∧ t.val < 88) ∨ 88 ≤ t.val) with hk | hw | ht
    · iintro ⟨H, Hk⟩
      iapply (step_kv_fresh c (grid0.coords t) _ _ _ _ _ _ _ _ _ _ _ _ _ _ _ _ _ _ _ _ _ (i1.mpr (by omega)) (i2.mpr (by omega)) (fun h => absurd (i3.mp h) (by omega)) (i4.mpr (by omega)) (fun h => absurd (i5.mp h) (by omega)) (fun h => absurd (i6.mp h) (by omega)) K)
      isplitl [H]; · iexact H
      iintro H
      unfold holds
      icases H with ⟨H0, H1, H2, H3, H4, H5, HS⟩
      iapply Hk
      unfold Done
      isplitl [H0]; · iexact H0
      isplitl [H1]; · iexact H1
      isplitl [H2]; · iexact H2
      isplitl [H3]
      · rw [stored_leaves3 m c t (by omega), kvAt, rep_of_fresh t h1]; iexact H3
      isplitl [H4]; · iapply (idle_leaves4 m c t (by omega) d4); iexact H4
      isplitl [H5]; · iapply (idle_leaves5 m c t (by omega) d5); iexact H5
      iexists _; isplitr; swap; · iexact HS
      ipureintro
      exact ⟨fun _ => by rw [rep_of_fresh t h1], fun h => absurd h (by omega)⟩
    · iintro ⟨H, Hk⟩
      iapply (step_wide_fresh c (grid0.coords t) _ _ _ _ _ _ _ _ _ _ _ _ _ _ _ _ _ _ _ _ _ (i1.mpr (by omega)) (i2.mpr (by omega)) (fun h => absurd (i3.mp h) (by omega)) (fun h => absurd (i4.mp h) (by omega)) (i5.mpr (by omega)) (fun h => absurd (i6.mp h) (by omega)) K)
      isplitl [H]; · iexact H
      iintro H
      unfold holds
      icases H with ⟨H0, H1, H2, H3, H4, H5, HS⟩
      iapply Hk
      unfold Done
      isplitl [H0]; · iexact H0
      isplitl [H1]; · iexact H1
      isplitl [H2]; · iexact H2
      isplitl [H3]; · iapply (idle_leaves3 m c t (by omega) d3); iexact H3
      isplitl [H4]
      · rw [stored_leaves4 m c t (by omega), wideAt, rep_of_fresh t h1]; iexact H4
      isplitl [H5]; · iapply (idle_leaves5 m c t (by omega) d5); iexact H5
      iexists _; isplitr; swap; · iexact HS
      ipureintro
      exact ⟨fun _ => by rw [rep_of_fresh t h1], fun h => absurd h (by omega)⟩
    · iintro ⟨H, Hk⟩
      iapply (step_tail_fresh c (grid0.coords t) _ _ _ _ _ _ _ _ _ _ _ _ _ _ _ _ _ _ _ _ _ (i1.mpr (by omega)) (fun h => absurd (i2.mp h) (by omega)) (i3.mpr (by omega)) (fun h => absurd (i4.mp h) (by omega)) (fun h => absurd (i5.mp h) (by omega)) (i6.mpr (by omega)) K)
      isplitl [H]; · iexact H
      iintro ⟨%S₁, %hS₁, H⟩
      unfold holds
      icases H with ⟨H0, H1, H2, H3, H4, H5, HS⟩
      iapply Hk
      unfold Done
      isplitl [H0]; · iexact H0
      isplitl [H1]; · iexact H1
      isplitl [H2]; · iexact H2
      isplitl [H3]; · iapply (idle_leaves3 m c t (by omega) d3); iexact H3
      isplitl [H4]; · iapply (idle_leaves4 m c t (by omega) d4); iexact H4
      isplitl [H5]
      · rw [stored_leaves5 m c t (by omega), smallAt, rep_of_fresh t h1]; iexact H5
      iexists _; isplitr; swap; · iexact HS
      ipureintro
      exact ⟨fun h => absurd h (by omega), fun _ => by rw [rep_of_fresh t h1]; exact hS₁⟩
  · rcases (by omega : t.val < 16 ∨ (16 ≤ t.val ∧ t.val < 88) ∨ 88 ≤ t.val) with hk | hw | ht
    · iintro ⟨H, Hk⟩
      iapply (step_kv_kept c (grid0.coords t) _ _ _ _ _ _ _ _ _ _ _ _ _ _ _ _ _ _ _ _ _ (fun h => absurd (i1.mp h) (by omega)) (i4.mpr (by omega)) (fun h => absurd (i5.mp h) (by omega)) (fun h => absurd (i6.mp h) (by omega)) K)
      isplitl [H]; · iexact H
      iintro H
      unfold holds
      icases H with ⟨H0, H1, H2, H3, H4, H5, HS⟩
      iapply Hk
      unfold Done
      isplitl [H0]; · iexact H0
      isplitl [H1]; · iexact H1
      isplitl [H2]; · iexact H2
      isplitl [H3]
      · rw [stored_leaves3 m c t (by omega), kvAt, ← (hS h1).1 (by omega)]; iexact H3
      isplitl [H4]; · iapply (idle_leaves4 m c t (by omega) d4); iexact H4
      isplitl [H5]; · iapply (idle_leaves5 m c t (by omega) d5); iexact H5
      iexists _; isplitr; swap; · iexact HS
      ipureintro
      exact hS h1
    · iintro ⟨H, Hk⟩
      iapply (step_wide_kept c (grid0.coords t) _ _ _ _ _ _ _ _ _ _ _ _ _ _ _ _ _ _ _ _ _ (fun h => absurd (i1.mp h) (by omega)) (fun h => absurd (i4.mp h) (by omega)) (i5.mpr (by omega)) (fun h => absurd (i6.mp h) (by omega)) K)
      isplitl [H]; · iexact H
      iintro H
      unfold holds
      icases H with ⟨H0, H1, H2, H3, H4, H5, HS⟩
      iapply Hk
      unfold Done
      isplitl [H0]; · iexact H0
      isplitl [H1]; · iexact H1
      isplitl [H2]; · iexact H2
      isplitl [H3]; · iapply (idle_leaves3 m c t (by omega) d3); iexact H3
      isplitl [H4]
      · rw [stored_leaves4 m c t (by omega), wideAt, ← (hS h1).1 (by omega)]; iexact H4
      isplitl [H5]; · iapply (idle_leaves5 m c t (by omega) d5); iexact H5
      iexists _; isplitr; swap; · iexact HS
      ipureintro
      exact hS h1
    · iintro ⟨H, Hk⟩
      iapply (step_tail_kept c (grid0.coords t) _ _ _ _ _ _ _ _ _ _ _ _ _ _ _ _ _ _ _ _ _ (fun h => absurd (i1.mp h) (by omega)) (fun h => absurd (i4.mp h) (by omega)) (fun h => absurd (i5.mp h) (by omega)) (i6.mpr (by omega)) K)
      isplitl [H]; · iexact H
      iintro H
      unfold holds
      icases H with ⟨H0, H1, H2, H3, H4, H5, HS⟩
      iapply Hk
      unfold Done
      isplitl [H0]; · iexact H0
      isplitl [H1]; · iexact H1
      isplitl [H2]; · iexact H2
      isplitl [H3]; · iapply (idle_leaves3 m c t (by omega) d3); iexact H3
      isplitl [H4]; · iapply (idle_leaves4 m c t (by omega) d4); iexact H4
      isplitl [H5]
      · rw [stored_leaves5 m c t (by omega), smallAt, ← (hS h1).2 ht]; iexact H5
      iexists _; isplitr; swap; · iexact HS
      ipureintro
      exact hS h1

/-! ## The body obligation, the launch and the frame -/

theorem found0 (c : Dev nD) (t : Fin cfg0.N) (d) : (dats m 0 c).before 0 t d = iblk m c 0 t :=
  before0_0_of m (dats m 0 c) (arrays m c 0) (left0 m c) t d
theorem found1 (c : Dev nD) (t : Fin cfg0.N) (d) : (dats m 0 c).before 1 t d = iblk m c 1 t :=
  before0_1_of m (dats m 0 c) (arrays m c 1) (left1 m c) t d
theorem found2 (c : Dev nD) (t : Fin cfg0.N) (d) : (dats m 0 c).before 2 t d = iblk m c 2 t :=
  before0_2_of m (dats m 0 c) (arrays m c 2) (left2 m c) t d

/-- What a point finds in the scratch: within a tile, the tile's weights. -/
theorem opened (c : Dev nD) (t : Fin cfg0.N) : (dats m 0 c).Φ t.castSucc
    ⊢ iprop((∃ S, ⌜t.val % 8 ≠ 0 → Loaded m c t S⌝ ∗ owns (c : Thread nD τ) scratch fullShare S) ∗ (∃ r, prngReg c r)) := by
  have e : (dats m 0 c).Φ t.castSucc = Between m c t.val (Nat.le_of_lt t.isLt) := rfl
  rw [e]
  obtain ⟨n, hn⟩ := t
  cases n with
  | zero =>
    show Pipeline.ΦA spec0 c ⊢ _
    rw [anything]
    iintro ⟨⟨%S, HS⟩, Hg⟩
    isplitl [HS]
    · iexists S; isplitr
      · ipureintro; exact fun h => absurd (Nat.zero_mod 8) h
      iexact HS
    iexact Hg
  | succ n =>
    show iprop((∃ S, ⌜Loaded m c ⟨n, _⟩ S⌝ ∗ owns (c : Thread nD τ) scratch fullShare S) ∗ (∃ r, prngReg c r)) ⊢ _
    iintro ⟨⟨%S, %hS, HS⟩, Hg⟩
    isplitl [HS]
    · iexists S; isplitr
      · ipureintro; exact fun h => Loaded.next m n _ rfl h hS
      iexact HS
    iexact Hg

set_option maxHeartbeats 1600000 in
theorem obligation (c : Dev nD) : BodyObligation (dats (F := F) m 0 c) (defs₀ (F := F)) Variants.none () Set.univ := fun t => by
  rw [bigSep_W0, bigSep_W0]
  have er : defs₀ (F := F) .tc cfg0.body (cfg0.bodyArgs t (cfg0.slots t)) = bodyAt0 t := by
    unfold defs₀; rw [Defs.onTc_tc]
  rw [er]
  have ew : (dats m 0 c).owesAt () t.succ = (dats m 0 c).owesAt () t.castSucc := rfl
  rw [ew]
  show iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
    ⊢ wp frame (wpE (defs₀ (F := F)) Variants.none c none) Set.univ (bodyAt0 t) (fun _ =>
      iprop((dats m 0 c).Φ t.succ ∗ (dats m 0 c).owesAt () t.castSucc
        ∗ owns (c : Thread nD τ) (st0_0 t) fullShare ((dats m 0 c).after 0 t)
        ∗ owns (c : Thread nD τ) (st0_1 t) fullShare ((dats m 0 c).after 1 t)
        ∗ owns (c : Thread nD τ) (st0_2 t) fullShare ((dats m 0 c).after 2 t)
        ∗ (dats m 0 c).leavesExact 3 t ∗ (dats m 0 c).leavesExact 4 t ∗ (dats m 0 c).leavesExact 5 t))
  simp only [found0, found1, found2, left0, left1, left2]
  have eΦ : (dats m 0 c).Φ t.succ
      = iprop((∃ S, ⌜Loaded m c t S⌝ ∗ owns (c : Thread nD τ) scratch fullShare S) ∗ (∃ r, prngReg c r)) := rfl
  rw [eΦ]
  iintro ⟨HΦ, Ho, ⟨%d0, H0⟩, ⟨%d1, H1⟩, ⟨%d2, H2⟩, ⟨%d3, H3⟩, ⟨%d4, H4⟩, ⟨%d5, H5⟩⟩
  ihave HP := (opened m c t) $$ HΦ
  icases HP with ⟨⟨%S, %hS, HS⟩, Hg⟩
  iapply (point m c t S hS d3 d4 d5 _)
  isplitl [H0 H1 H2 H3 H4 H5 HS]
  · unfold holds
    isplitl [H0]; · iexact H0
    isplitl [H1]; · iexact H1
    isplitl [H2]; · iexact H2
    isplitl [H3]; · iexact H3
    isplitl [H4]; · iexact H4
    isplitl [H5]; · iexact H5
    iexact HS
  unfold Done
  iintro ⟨H0, H1, H2, H3, H4, H5, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  iexact H5

/-- After the last point nothing is said of the scratch any more. -/
theorem closed (c : Dev nD) : (dats m 0 c).Φ (Fin.last cfg0.N) ⊢ Pipeline.ΦA spec0 c := by
  rw [anything]
  have e : (dats m 0 c).Φ (Fin.last cfg0.N) = Between m c (95 + 1) (Nat.le_of_eq N_0.symm) := rfl
  rw [e]
  show iprop((∃ S, ⌜Loaded m c ⟨95, _⟩ S⌝ ∗ owns (c : Thread nD τ) scratch fullShare S) ∗ (∃ r, prngReg c r)) ⊢ _
  iintro ⟨⟨%S, -, HS⟩, Hg⟩
  isplitl [HS]
  · iexists S; iexact HS
  iexact Hg

-- the launch theorem's implicit arguments are found by unification through plain definitions
set_option backward.isDefEq.respectTransparency.types false in
theorem run : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := arrays m)
    (hin := fun c => Idealize.SL.BI.Entails.refl _) (hout := closed m)

theorem run_main : θ_run defs (onTc (τ := τ) (main (F := F))) (s₀ m ρ) (Pipeline.FramePost cfgs (dats m) 0 (V m)) :=
  (θ_run defs _ _).mono (fun _ h => h.1) (run m ρ)

/-- The arguments end as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (arrays m) (run_main m ρ)) ((θ_run defs _ _).mono (fun _ h => h.2) (run m ρ))

/-- The results end at what the windows' write-backs leave, and the arguments as launched. -/
theorem results : θ_run defs (onTc (τ := τ) (main (F := F))) ⟨m, fun _ => 0, ρ⟩ (fun r => ∀ c : Dev nD,
      r.2.mem ((c.tc : Thread nD τ).loc main_v9_0) = (dats m 0 c).arrAt 3 cfg0.N
      ∧ r.2.mem ((c.tc : Thread nD τ).loc main_v9_1) = (dats m 0 c).arrAt 4 cfg0.N
      ∧ r.2.mem ((c.tc : Thread nD τ).loc main_v9_2) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h.1 c).1 3, (h.1 c).1 4, (h.1 c).1 5, h.2 c⟩)
    (θ_run_and (run_main m ρ) (frame_of m ρ (dats m) (arrays m) (run_main m ρ)))

end Cert.ProjIdeal.Body

end
-- ==== Proof.ProjValue.lean ====
module

public import proofs.«01_k».proof.Proof.ProjFrame
public import proofs.«01_k».proof.Proof.Gen.ProjReferenceIdeal.Read
public import Idealize.ShloMosaic.Lib.Pipeline.ValueKit

/-! The keys and values, the wide and the small result are the reference's. -/

@[expose] public section

set_option maxRecDepth 16384

noncomputable section

namespace Cert.ProjIdeal.Final

open Cert.ProjIdeal Cert.ProjIdeal.Gen Cert.ProjIdeal.Body Idealize.ShloMosaic Idealize.ShloMosaic.TcCoe Idealize.SL.Sem

variable (m : (ℓ : Loc nD τ sig) → Buf (Elt Ideal) ℓ) (c : Dev nD)

/-- The first weight column of each tile. -/
def src (n : ℕ) : ℕ := [1024, 2048, 8392, 9416, 10440, 11464, 3072, 4104, 5128, 6152, 7176, 7176].getD n 0

/-- The block each window holds at each grid point. -/
theorem idx : ∀ t : Fin cfg0.N, win0_0.index t = ![t.val % 8, 0] ∧ win0_1.index t = ![src (t.val / 8), 0]
    ∧ win0_2.index t = ![0, 0] ∧ win0_3.index t = ![min t.val 15 % 8, min t.val 15 / 8]
    ∧ win0_4.index t = ![(max 16 (min t.val 87)) % 8 * (if t.val < 16 then 0 else 1), max 16 (min t.val 87) / 8 - 2]
    ∧ win0_5.index t = ![if t.val < 88 then 0 else t.val % 8, 0] :=
  (by decide +kernel : ∀ t : Fin grid0.N, _)

theorem src_le (n : ℕ) : src n ≤ 11464 := by
  unfold src
  by_cases h : n < 12
  · interval_cases n <;> simp
  · simp [h]

theorem in0 (t : Fin cfg0.N) (p : Fin 1024) (q : Fin 2048) (r : Fin 8192) (hr : r.val = t.val % 8 * 1024 + p.val) :
    iblk m c 0 t (ix2 p q) = Cert.ProjReferenceIdeal.Read.val_main_v0 (F := Ideal) (m ((c : Thread nD τ).loc main_arg0)) (ix2 r q) := by
  unfold Cert.ProjReferenceIdeal.Read.val_main_v0
  blk_simp [iblk, idx t]
  rw [V_main_arg0]
  have e : ((View.whole main_arg0).slice (win0_0.rect t)).emb (ix2 p q) = ix2 r q := by blk_ext [idx t]
  exact congrArg _ e

/-- The weights' transpose, as the call finds it. -/
theorem entry1 (a : Fin 12488) (j : Fin 2048) : V m c main_v1 (ix2 a j)
    = Cert.ProjReferenceIdeal.Read.val_main_v1 (F := Ideal) (m ((c : Thread nD τ).loc main_arg1)) (ix2 j a) := by
  unfold V
  simp only [hostOps0, hostOps0_1, hostOps0_2, hostOps0_3, hostOps0_4, List.flatten_cons, List.flatten_nil, List.append_nil, List.cons_append,
    List.nil_append]
  after_results_simp
  unfold Cert.ProjReferenceIdeal.Read.val_main_v1
  pointwise []

/-- The weight column of a row of the narrow products' weights, if it has one. -/
def tailCol (a : ℕ) : Option (Fin 12488) :=
  if h : a < 96 then some ⟨8200 + a, by omega⟩
  else if a < 128 then none
  else if h : a < 224 then some ⟨8296 + (a - 128), by omega⟩
  else if h : a < 232 then some ⟨4096 + (a - 224), by omega⟩
  else none

theorem sitofp_zero : (FloatOps.sitofp (F := Ideal) FTy.f32 0#32 : EReal) = 0 := by
  show (((0#32 : BitVec 32).toInt : ℝ) : EReal) = 0
  simp

/-- The narrow products' weights, as the call finds them: columns of the weights, or zeros. -/
theorem entry2 (a : Fin 256) (j : Fin 2048) : V m c main_v8 (ix2 a j) = (tailCol a.val).elim (0 : EReal) fun k =>
    (Cert.ProjReferenceIdeal.Read.val_main_v1 (F := Ideal) (m ((c : Thread nD τ).loc main_arg1)) (ix2 j k) : EReal) := by
  unfold V tailCol Cert.ProjReferenceIdeal.Read.val_main_v1
  simp only [hostOps0, hostOps0_1, hostOps0_2, hostOps0_3, hostOps0_4, List.flatten_cons, List.flatten_nil, List.append_nil, List.cons_append,
    List.nil_append]
  after_results_simp
  simp -implicitDefEqProofs only [StableHlo.TRef.toBuf, StableHlo.TRef.ofBuf, cast_cast, cast_eq]
  by_cases h1 : a.val < 96
  · simp only [h1, dif_pos, Option.elim]
    have h2 : a.val < 128 := by omega
    pointwise [h1, h2]
  by_cases h2 : a.val < 128
  · simp only [h1, h2, dif_neg, if_pos, not_false_eq_true, Option.elim]
    pointwise [h1, h2]
    exact sitofp_zero
  by_cases h3 : a.val < 224
  · simp only [h1, h2, h3, dif_neg, dif_pos, if_neg, not_false_eq_true, Option.elim]
    pointwise [h1, h2, h3]
    after_results_simp
    pointwise [h1, h2, h3]
    rw [dif_pos (show a.val - 128 < 104 by omega), dif_pos (show a.val - 128 < 96 by omega)]
  by_cases h4 : a.val < 232
  · simp only [h1, h2, h3, h4, dif_neg, dif_pos, if_neg, not_false_eq_true, Option.elim]
    pointwise [h1, h2, h3]
    after_results_simp
    pointwise [h1, h2, h3]
    rw [dif_pos (show a.val - 128 < 104 by omega), dif_neg (show ¬ a.val - 128 < 96 by omega)]
    refine congrArg _ (congrArg _ (Fin.ext ?_))
    show 4096 + (a.val - 128 - 96) = 4096 + (a.val - 224)
    omega
  simp only [h1, h2, h3, h4, dif_neg, if_neg, not_false_eq_true, Option.elim]
  pointwise [h1, h2, h3]
  rw [dif_neg (show ¬ a.val - 128 < 104 by omega)]
  exact sitofp_zero

theorem in1 (t : Fin cfg0.N) (k : Fin 1024) (j : Fin 2048) :
    iblk m c 1 t (ix2 k j) = Cert.ProjReferenceIdeal.Read.val_main_v1 (F := Ideal) (m ((c : Thread nD τ).loc main_arg1))
      (ix2 j (⟨src (t.val / 8) + k.val, by have := src_le (t.val / 8); omega⟩ : Fin 12488)) := by
  rw [← entry1 m c]
  blk_simp [iblk, idx t]
  have e : ((View.whole main_v1).slice (win0_1.rect t)).emb (ix2 k j)
      = ix2 (⟨src (t.val / 8) + k.val, by have := src_le (t.val / 8); omega⟩ : Fin 12488) j := by
    funext a
    apply Fin.ext
    have h := (idx t).2.1
    fin_cases a
    · show win0_1.index t 0 + 1 * k.val = _
      rw [h]; simp
    · show win0_1.index t 1 + 1 * j.val = _
      rw [h]; simp
  exact congrArg _ e

theorem in2 (t : Fin cfg0.N) (a : Fin 256) (j : Fin 2048) : iblk m c 2 t (ix2 a j) = (tailCol a.val).elim (0 : EReal) fun k =>
    (Cert.ProjReferenceIdeal.Read.val_main_v1 (F := Ideal) (m ((c : Thread nD τ).loc main_arg1)) (ix2 j k) : EReal) := by
  rw [← entry2 m c]
  blk_simp [iblk, idx t]
  have e : ((View.whole main_v8).slice (win0_2.rect t)).emb (ix2 a j) = ix2 a j := by blk_ext [idx t]
  exact congrArg _ e

/-- One entry of a wide tile's product. -/
theorem wide_at (t : Fin cfg0.N) (p q : Fin 1024) (r : Fin 8192) (hr : r.val = t.val % 8 * 1024 + p.val) (k : Fin 12488)
    (hk : k.val = src (t.val / 8) + q.val) : wideAt m c t (ix2 p q)
      = Cert.ProjReferenceIdeal.Read.val_main_v2 (F := Ideal) (m ((c : Thread nD τ).loc main_arg0)) (m ((c : Thread nD τ).loc main_arg1)) (ix2 r k) := by
  have e : k = ⟨src ((rep t).val / 8) + q.val, by have := src_le ((rep t).val / 8); omega⟩ := by
    apply Fin.ext
    rw [hk]
    show _ = src (t.val / 8 * 8 / 8) + q.val
    rw [Nat.mul_div_cancel _ (by omega)]
  pointwise [wideAt, k0_pay4, k0_pay1, Cert.ProjReferenceIdeal.Read.val_main_v2]
  refine Finset.sum_congr rfl fun j _ => ?_
  rw [in0 m c t p j r hr, in1 m c (rep t) q j, ← e]

theorem kv_at (t : Fin cfg0.N) (p q : Fin 1024) (r : Fin 8192) (hr : r.val = t.val % 8 * 1024 + p.val) (k : Fin 12488)
    (hk : k.val = src (t.val / 8) + q.val) : kvAt m c t (ix2 p q)
      = Cert.ProjReferenceIdeal.Read.val_main_v2 (F := Ideal) (m ((c : Thread nD τ).loc main_arg0)) (m ((c : Thread nD τ).loc main_arg1)) (ix2 r k) := by
  rw [← wide_at m c t p q r hr k hk]
  pointwise [wideAt, kvAt, k0_pay3, k0_pay4]

/-- One entry of the narrow products' tile. -/
theorem small_at (t : Fin cfg0.N) (p : Fin 1024) (q : Fin 256) (r : Fin 8192) (hr : r.val = t.val % 8 * 1024 + p.val) :
    smallAt m c t (ix2 p q) = (tailCol q.val).elim (0 : EReal) fun k =>
      (Cert.ProjReferenceIdeal.Read.val_main_v2 (F := Ideal) (m ((c : Thread nD τ).loc main_arg0)) (m ((c : Thread nD τ).loc main_arg1)) (ix2 r k) : EReal) := by
  pointwise [smallAt, k0_pay5, k0_pay2]
  cases h : tailCol q.val with
  | none =>
    simp only [Option.elim]
    refine Finset.sum_eq_zero fun j _ => ?_
    rw [in2 m c (rep t) q j, h]
    simp
  | some k =>
    simp only [Option.elim]
    pointwise [Cert.ProjReferenceIdeal.Read.val_main_v2]
    refine Finset.sum_congr rfl fun j _ => ?_
    rw [in0 m c t p j r hr, in2 m c (rep t) q j, h]
    rfl

/-! ## The reference's results, entry by entry -/

open Cert.ProjReferenceIdeal.Read (val_main_cst val_main_cst_0 val_main_v2 val_main_v3 val_main_v4 val_main_v5 val_main_v6 val_main_v8 val_main_v9
  val_main_v10 val_main_v11 val_main_v12 val_main_v13 val_main_v14 val_main_v15 val_main_v16 val_main_v17 val_main_v18 val_main_v19 val_main_v20)

variable (x0 : FVec Ideal S8192x2048 .bf16) (x1 : FVec Ideal S1x2048x12488 .f32)

theorem ref_kv (r : Fin 8192) (q : Fin 2048) (k : Fin 12488) (hk : k.val = 1024 + q.val) :
    val_main_v20 (F := Ideal) x0 x1 (ix2 r q) = val_main_v2 (F := Ideal) x0 x1 (ix2 r k) := by
  by_cases h : q.val < 1024
  · pointwise [val_main_v20, val_main_v15, val_main_v8, val_main_v9, val_main_v3, h]
    refine congrArg _ (congrArg _ (Fin.ext ?_))
    simp; omega
  · pointwise [val_main_v20, val_main_v15, val_main_v8, val_main_v9, val_main_v3, h]
    refine congrArg _ (congrArg _ (Fin.ext ?_))
    simp; omega

/-- The weight column of a column of the wide result. -/
def wideCol (n : ℕ) : ℕ := if n < 4096 then 8392 + n else if n < 5120 then n - 1024 else n - 1016

theorem ref_wide (r : Fin 8192) (q : Fin 9216) (k : Fin 12488) (hk : k.val = wideCol q.val) :
    val_main_v16 (F := Ideal) x0 x1 (ix2 r q) = val_main_v2 (F := Ideal) x0 x1 (ix2 r k) := by
  unfold wideCol at hk
  have hq := q.isLt
  pointwise [val_main_v16, val_main_v5, val_main_v6, val_main_v10, val_main_v12, val_main_v3, val_main_v4]
  split_ifs
  all_goals split_ifs at hk
  all_goals
    first
    | (exfalso; omega)
    | (refine congrArg _ (congrArg _ (Fin.ext ?_)); simp; omega)

theorem ref_small (r : Fin 8192) (q : Fin 256) : (val_main_v19 (F := Ideal) x0 x1 (ix2 r q) : EReal)
    = (tailCol q.val).elim (0 : EReal) fun k => (val_main_v2 (F := Ideal) x0 x1 (ix2 r k) : EReal) := by
  unfold tailCol
  have hq := q.isLt
  pointwise [val_main_v19, val_main_v13, val_main_v14, val_main_v11, val_main_v17, val_main_v18, val_main_v3, val_main_v4, val_main_cst, val_main_cst_0]
  by_cases h1 : q.val < 96
  · simp only [h1, dif_pos, Option.elim]
    refine congrArg _ (congrArg _ (Fin.ext ?_))
    show 4104 + (4096 + q.val) = 8200 + q.val
    omega
  by_cases h2 : q.val < 128
  · simp only [h1, h2, dif_neg, if_pos, not_false_eq_true, Option.elim]
    rw [dif_pos (by omega)]
  by_cases h3 : q.val < 224
  · simp only [h1, h2, h3, dif_neg, dif_pos, if_neg, not_false_eq_true, Option.elim]
    rw [dif_neg (by omega), dif_pos (by omega)]
    refine congrArg _ (congrArg _ (Fin.ext ?_))
    show 4104 + (4192 + (q.val - 96 - 32)) = 8296 + (q.val - 128)
    omega
  by_cases h4 : q.val < 232
  · simp only [h1, h2, h3, h4, dif_neg, dif_pos, if_neg, not_false_eq_true, Option.elim]
    rw [dif_neg (by omega), dif_neg (by omega), dif_pos (by omega)]
    refine congrArg _ (congrArg _ (Fin.ext ?_))
    show 4096 + (q.val - 96 - 32 - 96) = 4096 + (q.val - 224)
    omega
  simp only [h1, h2, h3, h4, dif_neg, if_neg, not_false_eq_true, Option.elim]
  rw [dif_neg (by omega), dif_neg (by omega), dif_neg (by omega)]

/-! ## The three results -/

theorem src_kv : ∀ n : ℕ, n < 2 → src n = 1024 + n * 1024 := by decide
theorem src_wide : ∀ n : ℕ, n < 9 → src (n + 2) = if n < 4 then 8392 + n * 1024 else if n < 5 then n * 1024 - 1024 else n * 1024 - 1016 := by decide

theorem final3 : (dats m 0 c).arrAt 3 (cfgs 0).N
    = val_main_v20 (F := Ideal) (m ((c : Thread nD τ).loc main_arg0)) (m ((c : Thread nD τ).loc main_arg1)) := by
  refine (dats m 0 c).arrAt_eq_of_covers 3 _ (by decide +kernel) fun t ht y => ?_
  blk_simp
  rw [left3]
  obtain ⟨p, q, rfl⟩ : ∃ (p q : Fin 1024), y = ix2 p q := ⟨y 0, y 1, by funext a; fin_cases a <;> rfl⟩
  have hs : (lastKv t).val = min t.val 15 := rfl
  have e : ((cfg0.win 3).blk t).view.emb (ix2 p q) = ix2 (⟨min t.val 15 % 8 * 1024 + p.val, by omega⟩ : Fin 8192)
      (⟨min t.val 15 / 8 * 1024 + q.val, by omega⟩ : Fin 2048) := by blk_ext [idx t]
  refine Eq.trans ?_ (congrArg _ e.symm)
  rw [ref_kv _ _ _ _ (⟨1024 + (min t.val 15 / 8 * 1024 + q.val), by omega⟩ : Fin 12488) rfl]
  refine kv_at m c (lastKv t) p q _ (by rw [hs]) _ ?_
  rw [hs, src_kv _ (by omega)]
  show 1024 + (min t.val 15 / 8 * 1024 + q.val) = _
  omega

theorem final4 : (dats m 0 c).arrAt 4 (cfgs 0).N
    = val_main_v16 (F := Ideal) (m ((c : Thread nD τ).loc main_arg0)) (m ((c : Thread nD τ).loc main_arg1)) := by
  refine (dats m 0 c).arrAt_eq_of_covers 4 _ (by decide +kernel) fun t ht y => ?_
  have ht' : 16 ≤ t.val := by
    have h := (flush4 t).symm.trans ht
    simp only [Bool.or_eq_true, decide_eq_true_eq] at h
    omega
  blk_simp
  rw [left4]
  obtain ⟨p, q, rfl⟩ : ∃ (p q : Fin 1024), y = ix2 p q := ⟨y 0, y 1, by funext a; fin_cases a <;> rfl⟩
  have hs : (lastWide t).val = min t.val 87 := rfl
  have e : ((cfg0.win 4).blk t).view.emb (ix2 p q) = ix2 (⟨min t.val 87 % 8 * 1024 + p.val, by omega⟩ : Fin 8192)
      (⟨(min t.val 87 / 8 - 2) * 1024 + q.val, by omega⟩ : Fin 9216) := by
    have h16 : max 16 (min t.val 87) = min t.val 87 := by omega
    have h := (idx t).2.2.2.2.1
    rw [if_neg (by omega), h16, mul_one] at h
    blk_ext [h]
  refine Eq.trans ?_ (congrArg _ e.symm)
  obtain ⟨n, hn, hn9⟩ : ∃ n, min t.val 87 / 8 = n + 2 ∧ n < 9 := ⟨min t.val 87 / 8 - 2, by omega, by omega⟩
  have hk : wideCol ((min t.val 87 / 8 - 2) * 1024 + q.val) = src (n + 2) + q.val := by
    rw [src_wide n hn9, hn]
    unfold wideCol
    have := q.isLt
    split_ifs <;> omega
  rw [ref_wide _ _ _ _ (⟨src (n + 2) + q.val, by have := src_le (n + 2); omega⟩ : Fin 12488) hk.symm]
  exact wide_at m c (lastWide t) p q _ (by rw [hs]) _ (by rw [hs, hn])

theorem final5 : (dats m 0 c).arrAt 5 (cfgs 0).N
    = val_main_v19 (F := Ideal) (m ((c : Thread nD τ).loc main_arg0)) (m ((c : Thread nD τ).loc main_arg1)) := by
  refine (dats m 0 c).arrAt_eq_of_covers 5 _ (by decide +kernel) fun t ht y => ?_
  have ht' : ¬ t.val < 88 := by
    have h := (flush5 t).symm.trans ht
    simp only [decide_eq_true_eq] at h
    omega
  blk_simp
  rw [left5]
  obtain ⟨p, q, rfl⟩ : ∃ (p : Fin 1024) (q : Fin 256), y = ix2 p q := ⟨y 0, y 1, by funext a; fin_cases a <;> rfl⟩
  have e : ((cfg0.win 5).blk t).view.emb (ix2 p q) = ix2 (⟨t.val % 8 * 1024 + p.val, by omega⟩ : Fin 8192) q := by
    have h := (idx t).2.2.2.2.2
    rw [if_neg ht'] at h
    blk_ext [h]
  refine Eq.trans ?_ (congrArg _ e.symm)
  rw [ref_small]
  exact small_at m c t p q _ rfl

end Cert.ProjIdeal.Final
-- ==== Proof.GateValue.lean ====
module

public import proofs.«01_k».proof.Proof.Gen.GateIdeal.Value
public import proofs.«01_k».proof.Proof.Gen.GateReferenceIdeal.Read
public import Idealize.ShloMosaic.Lib.Pipeline.ValueKit

/-! The gate's running sums are the reference's. -/

@[expose] public section

set_option maxRecDepth 16384

noncomputable section

namespace Cert.GateIdeal.Final

open Cert.GateIdeal Cert.GateIdeal.Gen Idealize.ShloMosaic Idealize.ShloMosaic.TcCoe Idealize.SL.Sem

variable (m : (ℓ : Loc nD τ sig) → Buf (Elt Ideal) ℓ) (c : Dev nD)

/-- A left fold that adds terms is the sum of the terms. -/
theorem foldl_sum {α : Type*} (l : List α) (f : α → EReal) (a : EReal) :
    l.foldl (fun r n => r + f n) a = a + (l.map f).sum := by
  induction l generalizing a with
  | nil => simp
  | cons x l ih => simp [ih, add_assoc]

/-- Window positions of one column, as numbers. -/
def along : (⟨3, ![1, 2048, 1]⟩ : Shape).Idx ≃ Fin 2048 where
  toFun i := i 1
  invFun w := ix3 (0 : Fin 1) w (0 : Fin 1)
  left_inv i := by
    funext a
    fin_cases a
    · exact Subsingleton.elim (α := Fin 1) _ _
    · rfl
    · exact Subsingleton.elim (α := Fin 1) _ _
  right_inv w := rfl

/-- A sum over all windows ending at `n` is the running sum. -/
theorem shift (f : ℕ → EReal) (n : ℕ) (hn : n < 2048) :
    (∑ w ∈ Finset.range 2048, if 2047 ≤ n + w then f (n + w - 2047) else 0) = ∑ i ∈ Finset.range (n + 1), f i := by
  have e : 2048 = (2047 - n) + (n + 1) := by omega
  conv_lhs => rw [e, Finset.sum_range_add]
  have h1 : (∑ w ∈ Finset.range (2047 - n), if 2047 ≤ n + w then f (n + w - 2047) else 0) = 0 := by
    refine Finset.sum_eq_zero fun w hw => if_neg ?_
    have := Finset.mem_range.mp hw
    omega
  rw [h1, zero_add]
  refine Finset.sum_congr rfl fun i hi => ?_
  rw [if_pos (by omega)]
  congr 1
  omega

/-- The window sum with the low padding of a running sum, entry by entry. -/
theorem window_at (x : Cert.GateReferenceIdeal.S4x2048x128.Idx → EReal) (h : Cert.GateReferenceIdeal.S4x2048x128.ReduceWindows ![1, 2048, 1] ![1, 1, 1] ![0, 2047, 0] ![0, 0, 0] Cert.GateReferenceIdeal.S4x2048x128)
    (b : Fin 4) (n : Fin 2048) (q : Fin 128) (f : ℕ → EReal) (hf : ∀ i : Fin 2048, f i.val = x (ix3 b i q)) :
    Ideal.hostReduceWindowAdd ![1, 2048, 1] ![1, 1, 1] ![0, 2047, 0] ![0, 0, 0] h x 0 (ix3 b n q)
      = ∑ i ∈ Finset.range (n.val + 1), f i := by
  unfold Ideal.hostReduceWindowAdd Host.reduceWindow
  refine (foldl_sum _ _ _).trans ?_
  rw [zero_add, ← List.ofFn_eq_map, List.sum_ofFn]
  rw [← shift f n.val n.isLt, Finset.sum_range]
  refine Fintype.sum_equiv ((Shape.rowMajor _).symm.trans along) _ _ fun k => ?_
  obtain ⟨w, hw⟩ : ∃ w, along.symm w = (Shape.rowMajor ⟨3, ![1, 2048, 1]⟩).symm k := ⟨along ((Shape.rowMajor _).symm k), by simp⟩
  simp only [Equiv.trans_apply, ← hw, Equiv.apply_symm_apply]
  by_cases h2 : 2047 ≤ n.val + w.val
  · rw [if_pos h2, dif_pos]
    · refine Eq.trans ?_ (hf ⟨n.val + w.val - 2047, by omega⟩).symm
      congr 1
      funext a
      fin_cases a
      · refine Fin.ext ?_
        show b.val * 1 + 0 - 0 = b.val
        omega
      · refine Fin.ext ?_
        show n.val * 1 + w.val - 2047 = n.val + w.val - 2047
        omega
      · refine Fin.ext ?_
        show q.val * 1 + 0 - 0 = q.val
        omega
    · intro a
      fin_cases a
      · show 0 ≤ b.val * 1 + 0 ∧ b.val * 1 + 0 - 0 < 4
        omega
      · show 2047 ≤ n.val * 1 + w.val ∧ n.val * 1 + w.val - 2047 < 2048
        omega
      · show 0 ≤ q.val * 1 + 0 ∧ q.val * 1 + 0 - 0 < 128
        omega
  · rw [if_neg h2, dif_neg]
    intro h3
    have h4 : 2047 ≤ n.val * 1 + w.val := (h3 1).1
    omega

theorem window_sum (x : FVec Ideal Cert.GateReferenceIdeal.S4x2048x128 .f32) (z : FVec Ideal Cert.GateReferenceIdeal.S_ .f32)
    (h : Cert.GateReferenceIdeal.S4x2048x128.ReduceWindows ![1, 2048, 1] ![1, 1, 1] ![0, 2047, 0] ![0, 0, 0] Cert.GateReferenceIdeal.S4x2048x128)
    (hu : 0 < Cert.GateReferenceIdeal.S_.numel) (j : Cert.GateReferenceIdeal.S4x2048x128.Idx) :
    Host.reduceWindowAdd ![1, 2048, 1] ![1, 1, 1] ![0, 2047, 0] ![0, 0, 0] x z h hu j
      = Ideal.hostReduceWindowAdd ![1, 2048, 1] ![1, 1, 1] ![0, 2047, 0] ![0, 0, 0] h x (z (Shape.Idx.first hu)) j := rfl

/-- Splitting a nonpositive number in three parts by rounding that changes nothing, and adding them up, gives it back. -/
theorem parts (x : EReal) (hx : x ≤ 0) : x + (x - x) + ((x - x) - (x - x)) = x := by
  induction x using EReal.rec with
  | bot => rfl
  | coe r => norm_cast; simp
  | top => simp at hx

/-- A block of a running sum over what came before. -/
theorem block_sum (f : ℕ → EReal) (o : ℕ) (p : Fin 256) :
    (∑ j : Fin 256, if j ≤ p then f (o + j.val) else 0) + ∑ i ∈ Finset.range o, f i = ∑ i ∈ Finset.range (o + p.val + 1), f i := by
  rw [add_assoc, Finset.sum_range_add, add_comm]
  congr 1
  have : ∀ j : Fin 256, (j ≤ p) = (j.val ≤ p.val) := fun _ => rfl
  simp only [this]
  rw [← Finset.sum_range (n := 256) (f := fun j => if j ≤ p.val then f (o + j) else 0), ← Finset.sum_filter]
  refine Finset.sum_congr ?_ fun _ _ => rfl
  ext j
  simp only [Finset.mem_filter, Finset.mem_range]
  omega

theorem tri_at (p j : Fin 256) : k0_pay5 (F := Ideal) (ix2 p j) = if j ≤ p then 1 else 0 := by
  pointwise [k0_pay5]
  rw [WordCmp.cmpi_sle_ofNat (lt_trans j.isLt (by norm_num)) (lt_trans p.isLt (by norm_num))]
  by_cases h : j ≤ p
  · rw [if_pos h, decide_eq_true (by exact h)]; rfl
  · rw [if_neg h, decide_eq_false (by exact h)]; rfl

theorem tri_sum (p : Fin 256) (x : Fin 256 → EReal) (hx : ∀ j, x j ≤ 0) :
    (∑ j, (if j ≤ p then (1 : EReal) else 0) * x j) + (∑ j, (if j ≤ p then (1 : EReal) else 0) * (x j - x j))
      + (∑ j, (if j ≤ p then (1 : EReal) else 0) * ((x j - x j) - (x j - x j))) = ∑ j, if j ≤ p then x j else 0 := by
  rw [← Finset.sum_add_distrib, ← Finset.sum_add_distrib]
  refine Finset.sum_congr rfl fun j _ => ?_
  by_cases h : j ≤ p
  · simp only [if_pos h, one_mul]; exact parts _ (hx j)
  · simp only [if_neg h, zero_mul, add_zero]

/-- The block each window holds at each grid point. -/
theorem idx : ∀ t : Fin cfg0.N, win0_0.index t = ![t.val, 1] ∧ win0_1.index t = ![0, 0] ∧ win0_2.index t = ![t.val, 0] :=
  (by decide +kernel : ∀ t : Fin grid0.N, _)

theorem in0 (t : Fin cfg0.N) (p : Fin 1024) (q : Fin 128) (b : Fin 4) (n : Fin 2048) (hr : b.val * 2048 + n.val = t.val * 1024 + p.val) :
    iblk m c 0 t (ix2 p q) = Cert.GateReferenceIdeal.Read.val_main_v4 (F := Ideal) (m ((c : Thread nD τ).loc main_arg0)) (ix3 b n q) := by
  pointwise [Cert.GateReferenceIdeal.Read.val_main_v4, Cert.GateReferenceIdeal.Read.val_main_v3]
  blk_simp [iblk, idx t]
  entry_read
  have e : ((View.whole main_arg0).slice (win0_0.rect t)).emb (ix2 p q) = ix2 (⟨b.val * 2048 + n.val, by omega⟩ : Fin 8192) (⟨128 + q.val, by omega⟩ : Fin 256) := by
    blk_ext [idx t]
  refine (congrArg _ e).trans ?_
  exact congrFun (V_main_arg0 m c) _

theorem entry1 (q : Fin 128) : V m c main_v2 (ix2 (0 : Fin 1) q)
    = Cert.GateReferenceIdeal.Read.val_main_v2 (F := Ideal) (m ((c : Thread nD τ).loc main_arg1)) (ix2 (0 : Fin 1) q) := by
  unfold V Cert.GateReferenceIdeal.Read.val_main_v2 Cert.GateReferenceIdeal.Read.val_main_v1 Cert.GateReferenceIdeal.Read.val_main_v0 Cert.GateReferenceIdeal.Read.val_main_call0_v0
    Cert.GateReferenceIdeal.Read.val_main_c
  simp only [hostOps0, hostOps0_1, List.flatten_cons, List.flatten_nil, List.append_nil, List.cons_append, List.nil_append]
  after_results_simp
  simp -implicitDefEqProofs only [StableHlo.TRef.toBuf, StableHlo.TRef.ofBuf, cast_cast, cast_eq]
  rfl

theorem in1 (t : Fin cfg0.N) (q : Fin 128) :
    iblk m c 1 t (ix2 (0 : Fin 1) q) = Cert.GateReferenceIdeal.Read.val_main_v2 (F := Ideal) (m ((c : Thread nD τ).loc main_arg1)) (ix2 (0 : Fin 1) q) := by
  refine Eq.trans ?_ (entry1 m c q)
  blk_simp [iblk, idx t]
  entry_read
  have e : ((View.whole main_v2).slice (win0_1.rect t)).emb (ix2 (0 : Fin 1) q) = ix2 (0 : Fin 1) q := by blk_ext [idx t]
  exact congrArg _ e

theorem logf_at (t : Fin cfg0.N) (p : Fin 1024) (q : Fin 128) (b : Fin 4) (n : Fin 2048) (hr : b.val * 2048 + n.val = t.val * 1024 + p.val) :
    k0_pay4 (iblk m c 0 t) (iblk m c 1 t) (ix2 p q)
      = Cert.GateReferenceIdeal.Read.val_main_v8 (F := Ideal) (m ((c : Thread nD τ).loc main_arg0)) (m ((c : Thread nD τ).loc main_arg1)) (ix3 b n q) := by
  have h0 := in0 m c t p q b n hr
  pointwise [k0_pay4, Cert.GateReferenceIdeal.Read.val_main_v8, Cert.GateReferenceIdeal.Read.val_main_call1_v1,
    Cert.GateReferenceIdeal.Read.val_main_call1_call0_v11, Cert.GateReferenceIdeal.Read.val_main_call1_call0_v10, Cert.GateReferenceIdeal.Read.val_main_call1_call0_v9,
    Cert.GateReferenceIdeal.Read.val_main_call1_call0_v8, Cert.GateReferenceIdeal.Read.val_main_call1_call0_v7, Cert.GateReferenceIdeal.Read.val_main_call1_call0_v6,
    Cert.GateReferenceIdeal.Read.val_main_call1_call0_v5, Cert.GateReferenceIdeal.Read.val_main_call1_call0_v4, Cert.GateReferenceIdeal.Read.val_main_call1_call0_v3,
    Cert.GateReferenceIdeal.Read.val_main_call1_call0_v2, Cert.GateReferenceIdeal.Read.val_main_call1_call0_v1, Cert.GateReferenceIdeal.Read.val_main_call1_call0_v0,
    Cert.GateReferenceIdeal.Read.val_main_call1_call0_cst, Cert.GateReferenceIdeal.Read.val_main_call1_v0, Cert.GateReferenceIdeal.Read.val_main_v7,
    Cert.GateReferenceIdeal.Read.val_main_v6, Cert.GateReferenceIdeal.Read.val_main_v5]
  rw [if_neg (fun h => h rfl), h0, in1 m c t q]
  simp only [zero_sub]
  rfl

theorem log_nonneg (x : EReal) (h : 1 ≤ x) : 0 ≤ Ideal.log x := by
  induction x using EReal.rec with
  | bot => exact absurd (le_bot_iff.mp h) (EReal.coe_ne_bot 1)
  | top => exact le_top
  | coe r =>
    have h1 : (1 : ℝ) ≤ r := by exact_mod_cast h
    have e : Ideal.log (r : EReal) = ((Real.log r : ℝ) : EReal) := if_neg (by linarith)
    rw [e]
    exact EReal.coe_nonneg.mpr (Real.log_nonneg h1)

theorem exp_nonneg (x : EReal) : 0 ≤ Ideal.exp x := by
  induction x using EReal.rec with
  | bot => exact le_refl _
  | top => exact le_top
  | coe r => exact EReal.coe_nonneg.mpr (Real.exp_pos r).le

/-- The logarithm of a sigmoid is at most zero. -/
theorem logf_le (x0 : Vec Ideal S1024x128 .f32) (x1 : Vec Ideal S1x128 .f32) (p : Fin 1024) (q : Fin 128) : k0_pay4 x0 x1 (ix2 p q) ≤ (0 : EReal) := by
  pointwise [k0_pay4]
  rw [zero_sub, EReal.neg_le, neg_zero]
  exact add_nonneg (le_max_right _ _) (log_nonneg _ (le_add_of_nonneg_right (exp_nonneg _)))

theorem first_at (x0 : Vec Ideal S1024x128 .f32) (x1 : Vec Ideal S1x128 .f32) (v : Vec Ideal S1x128 .f32) (p : Fin 256) (q : Fin 128) :
    k0_pay12 k0_pay5 v (k0_pay10 x0 x1) (k0_pay11 x0 x1) (ix2 p q)
      = (∑ j : Fin 256, if j ≤ p then (k0_pay4 x0 x1 (ix2 (⟨j.val, by omega⟩ : Fin 1024) q) : EReal) else 0) + v (ix2 (0 : Fin 1) q) := by
  pointwise [k0_pay12, k0_pay11, k0_pay10, k0_pay9, k0_pay8, k0_pay7, k0_pay6]
  simp only [tri_at]
  exact congrArg (· + _) (tri_sum p _ fun j => logf_le x0 x1 _ q)

theorem second_at (x0 : Vec Ideal S1024x128 .f32) (x1 : Vec Ideal S1x128 .f32) (v : Vec Ideal S1x128 .f32) (p : Fin 256) (q : Fin 128) :
    k0_pay13 (k0_pay4 x0 x1) k0_pay5 v (k0_pay10 x0 x1) (k0_pay11 x0 x1) (ix2 p q)
      = (∑ j : Fin 256, if j ≤ p then (k0_pay4 x0 x1 (ix2 (⟨256 + j.val, by omega⟩ : Fin 1024) q) : EReal) else 0)
        + k0_pay12 k0_pay5 v (k0_pay10 x0 x1) (k0_pay11 x0 x1) (ix2 (255 : Fin 256) q) := by
  pointwise [k0_pay13]
  simp only [tri_at]
  exact congrArg (· + _) (tri_sum p _ fun j => logf_le x0 x1 _ q)

theorem third_at (x0 : Vec Ideal S1024x128 .f32) (x1 : Vec Ideal S1x128 .f32) (v : Vec Ideal S1x128 .f32) (p : Fin 256) (q : Fin 128) :
    k0_pay14 (k0_pay4 x0 x1) k0_pay5 v (k0_pay10 x0 x1) (k0_pay11 x0 x1) (ix2 p q)
      = (∑ j : Fin 256, if j ≤ p then (k0_pay4 x0 x1 (ix2 (⟨512 + j.val, by omega⟩ : Fin 1024) q) : EReal) else 0)
        + k0_pay13 (k0_pay4 x0 x1) k0_pay5 v (k0_pay10 x0 x1) (k0_pay11 x0 x1) (ix2 (255 : Fin 256) q) := by
  pointwise [k0_pay14]
  simp only [tri_at]
  exact congrArg (· + _) (tri_sum p _ fun j => logf_le x0 x1 _ q)

theorem fourth_at (x0 : Vec Ideal S1024x128 .f32) (x1 : Vec Ideal S1x128 .f32) (v : Vec Ideal S1x128 .f32) (p : Fin 256) (q : Fin 128) :
    k0_pay1 k0_pay5 (k0_pay15 (k0_pay4 x0 x1) k0_pay5 v (k0_pay10 x0 x1) (k0_pay11 x0 x1)) (k0_pay16 (k0_pay4 x0 x1)) (k0_pay17 (k0_pay4 x0 x1))
      (constant S256x128 FTy.f32 0#32) (ix2 p q)
      = (∑ j : Fin 256, if j ≤ p then (k0_pay4 x0 x1 (ix2 (⟨768 + j.val, by omega⟩ : Fin 1024) q) : EReal) else 0)
        + k0_pay14 (k0_pay4 x0 x1) k0_pay5 v (k0_pay10 x0 x1) (k0_pay11 x0 x1) (ix2 (255 : Fin 256) q) := by
  pointwise [k0_pay1, k0_pay15, k0_pay16, k0_pay17]
  simp only [tri_at]
  exact congrArg (· + _) (tri_sum p _ fun j => logf_le x0 x1 _ q)

section rows

variable (x0 : Vec Ideal S1024x128 .f32) (x1 : Vec Ideal S1x128 .f32) (v : Vec Ideal S1x128 .f32) (q : Fin 128) (f : ℕ → EReal) (o : ℕ)

/-- The four row groups of a block, as running sums: the sum so far is carried in `v`. -/
theorem rows (hf : ∀ p : Fin 1024, k0_pay4 x0 x1 (ix2 p q) = f (o + p.val)) (hv : v (ix2 (0 : Fin 1) q) = ∑ i ∈ Finset.range o, f i) (p : Fin 256) :
    k0_pay12 k0_pay5 v (k0_pay10 x0 x1) (k0_pay11 x0 x1) (ix2 p q) = ∑ i ∈ Finset.range (o + (0 + p.val) + 1), f i
    ∧ k0_pay13 (k0_pay4 x0 x1) k0_pay5 v (k0_pay10 x0 x1) (k0_pay11 x0 x1) (ix2 p q) = ∑ i ∈ Finset.range (o + (256 + p.val) + 1), f i
    ∧ k0_pay14 (k0_pay4 x0 x1) k0_pay5 v (k0_pay10 x0 x1) (k0_pay11 x0 x1) (ix2 p q) = ∑ i ∈ Finset.range (o + (512 + p.val) + 1), f i
    ∧ k0_pay1 k0_pay5 (k0_pay15 (k0_pay4 x0 x1) k0_pay5 v (k0_pay10 x0 x1) (k0_pay11 x0 x1)) (k0_pay16 (k0_pay4 x0 x1)) (k0_pay17 (k0_pay4 x0 x1))
      (constant S256x128 FTy.f32 0#32) (ix2 p q) = ∑ i ∈ Finset.range (o + (768 + p.val) + 1), f i := by
  have e1 : ∀ p : Fin 256, k0_pay12 k0_pay5 v (k0_pay10 x0 x1) (k0_pay11 x0 x1) (ix2 p q) = ∑ i ∈ Finset.range (o + (0 + p.val) + 1), f i := fun p => by
    rw [first_at, hv]
    simp only [hf, zero_add]
    exact block_sum f o p
  have e2 : ∀ p : Fin 256, k0_pay13 (k0_pay4 x0 x1) k0_pay5 v (k0_pay10 x0 x1) (k0_pay11 x0 x1) (ix2 p q)
      = ∑ i ∈ Finset.range (o + (256 + p.val) + 1), f i := fun p => by
    rw [second_at, e1]
    simp only [hf, ← add_assoc]
    exact block_sum f (o + 256) p
  have e3 : ∀ p : Fin 256, k0_pay14 (k0_pay4 x0 x1) k0_pay5 v (k0_pay10 x0 x1) (k0_pay11 x0 x1) (ix2 p q)
      = ∑ i ∈ Finset.range (o + (512 + p.val) + 1), f i := fun p => by
    rw [third_at, e2]
    simp only [hf, ← add_assoc]
    exact block_sum f (o + 512) p
  refine ⟨e1 p, e2 p, e3 p, ?_⟩
  rw [fourth_at, e3]
  simp only [hf, ← add_assoc]
  exact block_sum f (o + 768) p

end rows

/-- The logarithms of the gates of one sequence, as a sequence of numbers. -/
def logs (b : Fin 4) (q : Fin 128) (i : ℕ) : EReal :=
  if h : i < 2048 then Cert.GateReferenceIdeal.Read.val_main_v8 (F := Ideal) (m ((c : Thread nD τ).loc main_arg0)) (m ((c : Thread nD τ).loc main_arg1)) (ix3 b (⟨i, h⟩ : Fin 2048) q)
  else 0

theorem logs_at (t : Fin cfg0.N) (p : Fin 1024) (q : Fin 128) (b : Fin 4) (hb : b.val = t.val / 2) :
    k0_pay4 (iblk m c 0 t) (iblk m c 1 t) (ix2 p q) = logs m c b q (t.val % 2 * 1024 + p.val) := by
  have hN : t.val < 8 := t.isLt
  have h : t.val % 2 * 1024 + p.val < 2048 := by omega
  rw [logs, dif_pos h]
  exact logf_at m c t p q b ⟨_, h⟩ (by show b.val * 2048 + (t.val % 2 * 1024 + p.val) = _; omega)

/-- The carried row at the start of a sequence. -/
def start : Vec Ideal S1x128 .f32 :=
  View.readCov (View.whole cc0_scratch0) ((⟨Rect.unit (s := S8x128) ![0, 0] ![8, 128] inb_S8x128_S8x128_0_0, k0_pay3 (F := Ideal)⟩ : View.Piece (Elt Ideal) S8x128 .f32) :: [])
    (Rect.unit (s := S8x128) ![0, 0] ![1, 128] inb_S8x128_S1x128_0_0).toLoadRect

theorem start_at (q : Fin 128) : start (ix2 (0 : Fin 1) q) = (0 : EReal) := by
  unfold start
  rw [View.readCov_eq_canon']
  rw [View.canon_cons_unit_lit (S := S8x128) inb_S8x128_S8x128_0_0 _ _ (by decide)]
  show k0_pay3 (F := Ideal) _ = (0 : EReal)
  pointwise [k0_pay3]

theorem last_at (a : FVec Ideal S256x256 .bf16) (v : FVec Ideal S1x128 .f32) (x : FVec Ideal S256x128 .f32) (y : FVec Ideal S256x128 .bf16)
    (z : FVec Ideal S256x128 .f32) (q : Fin 128) : k0_pay2 a v x y z (ix2 (0 : Fin 1) q) = k0_pay1 a v x y z (ix2 (255 : Fin 256) q) := by
  unfold k0_pay2
  pointwise []

theorem even (t : Fin cfg0.N) (h : t.val % 2 = 0) (p : Fin 1024) (q : Fin 128) (b : Fin 4) (hb : b.val = t.val / 2) :
    (outsAt0 m c t.val t.isLt).1 (ix2 p q) = ∑ i ∈ Finset.range (t.val % 2 * 1024 + p.val + 1), logs m c b q i := by
  have hv : start (ix2 (0 : Fin 1) q) = ∑ i ∈ Finset.range (t.val % 2 * 1024), logs m c b q i := by
    rw [h, start_at]
    simp
  have hr := rows (iblk m c 0 t) (iblk m c 1 t) _ q (logs m c b q) (t.val % 2 * 1024) (fun p => logs_at m c t p q b hb) hv
  have hp : ∀ (k : ℕ) (x : S256x128.Idx) (h0 : (ix2 p q 0 : Fin 1024).val = k + (x 0).val) (h1 : (ix2 p q 1 : Fin 128).val = (x 1).val) (z : S256x128.Idx → EReal),
      z (ix2 (x 0) q) = ∑ i ∈ Finset.range (t.val % 2 * 1024 + (k + (x 0).val) + 1), logs m c b q i →
      z x = ∑ i ∈ Finset.range (t.val % 2 * 1024 + p.val + 1), logs m c b q i := by
    intro k x h0 h1 z hz
    have h2 : p.val = k + (x 0).val := h0
    have e : x = ix2 (x 0) q := by
      funext a
      fin_cases a
      · rfl
      · exact Fin.ext h1.symm
    rw [h2, ← hz]
    exact congrArg z e
  rw [outsAt0_A m c t h]
  frame_out
  canon_tiles x hx
  · exact hp 768 x hx0 hx1 _ (hr _).2.2.2
  · exact hp 512 x hx0 hx1 _ (hr _).2.2.1
  · exact hp 256 x hx0 hx1 _ (hr _).2.1
  · exact hp 0 x (by omega) hx1 _ (hr _).1

theorem scr2 (t : Fin cfg0.N) (h : t.val % 2 = 0) (q : Fin 128) (b : Fin 4) (hb : b.val = t.val / 2) :
    (outsAt0 m c t.val t.isLt).2 (ix2 (0 : Fin 8) q) = ∑ i ∈ Finset.range 1024, logs m c b q i := by
  have hv : start (ix2 (0 : Fin 1) q) = ∑ i ∈ Finset.range (t.val % 2 * 1024), logs m c b q i := by
    rw [h, start_at]
    simp
  have hr := (rows (iblk m c 0 t) (iblk m c 1 t) _ q (logs m c b q) (t.val % 2 * 1024) (fun p => logs_at m c t p q b hb) hv 255).2.2.2
  have hs : t.val % 2 * 1024 + (768 + (255 : Fin 256).val) + 1 = 1024 := by rw [h]; rfl
  rw [hs] at hr
  rw [outsAt0_A m c t h]
  frame_out
  refine Eq.trans (View.canon_cons_emb (Rect.unit (s := S8x128) ![0, 0] ![1, 128] inb_S8x128_S1x128_0_0) _ _ (ix2 (0 : Fin 1) q) |> fun e => Eq.trans (congrArg _ ?_) e) ?_
  · funext a
    fin_cases a
    · rfl
    · refine Fin.ext ?_
      show q.val = 0 + 1 * q.val
      omega
  · rw [last_at]
    exact hr

/-- The carried row in the middle of a sequence: what the point before left. -/
def carried (t : Fin cfg0.N) : Vec Ideal S1x128 .f32 :=
  View.ld (View.read (Elt Ideal) (View.whole cc0_scratch0) ((Memref.isWhole_whole cc0_scratch0).unread
    (outsAt0 m c (t.val - 1) (Nat.lt_of_le_of_lt (Nat.sub_le _ _) t.isLt)).2)) (Rect.unit (s := S8x128) ![0, 0] ![1, 128] inb_S8x128_S1x128_0_0)

theorem carried_at (t : Fin cfg0.N) (q : Fin 128) :
    carried m c t (ix2 (0 : Fin 1) q) = (outsAt0 m c (t.val - 1) (Nat.lt_of_le_of_lt (Nat.sub_le _ _) t.isLt)).2 (ix2 (0 : Fin 8) q) := by
  have e : View.read (Elt Ideal) (View.whole cc0_scratch0) ((Memref.isWhole_whole cc0_scratch0).unread
      (outsAt0 m c (t.val - 1) (Nat.lt_of_le_of_lt (Nat.sub_le _ _) t.isLt)).2) = (outsAt0 m c (t.val - 1) (Nat.lt_of_le_of_lt (Nat.sub_le _ _) t.isLt)).2 :=
    Memref.IsWhole.read_unread _ _
  unfold carried
  rw [e]
  refine congrArg (outsAt0 m c (t.val - 1) _).2 ?_
  funext a
  fin_cases a
  · rfl
  · refine Fin.ext ?_
    show 0 + 1 * q.val = q.val
    omega

theorem odd (t : Fin cfg0.N) (h : ¬ t.val % 2 = 0) (p : Fin 1024) (q : Fin 128) (b : Fin 4) (hb : b.val = t.val / 2) :
    (outsAt0 m c t.val t.isLt).1 (ix2 p q) = ∑ i ∈ Finset.range (t.val % 2 * 1024 + p.val + 1), logs m c b q i := by
  have hN : t.val < 8 := t.isLt
  have hv : carried m c t (ix2 (0 : Fin 1) q) = ∑ i ∈ Finset.range (t.val % 2 * 1024), logs m c b q i := by
    rw [show t.val % 2 * 1024 = 1024 by omega, ← scr2 m c ⟨t.val - 1, by omega⟩ (by show (t.val - 1) % 2 = 0; omega) q b (by show b.val = (t.val - 1) / 2; omega)]
    exact carried_at m c t q
  have hr := rows (iblk m c 0 t) (iblk m c 1 t) _ q (logs m c b q) (t.val % 2 * 1024) (fun p => logs_at m c t p q b hb) hv
  have hp : ∀ (k : ℕ) (x : S256x128.Idx) (h0 : (ix2 p q 0 : Fin 1024).val = k + (x 0).val) (h1 : (ix2 p q 1 : Fin 128).val = (x 1).val) (z : S256x128.Idx → EReal),
      z (ix2 (x 0) q) = ∑ i ∈ Finset.range (t.val % 2 * 1024 + (k + (x 0).val) + 1), logs m c b q i →
      z x = ∑ i ∈ Finset.range (t.val % 2 * 1024 + p.val + 1), logs m c b q i := by
    intro k x h0 h1 z hz
    have h2 : p.val = k + (x 0).val := h0
    have e : x = ix2 (x 0) q := by
      funext a
      fin_cases a
      · rfl
      · exact Fin.ext h1.symm
    rw [h2, ← hz]
    exact congrArg z e
  rw [outsAt0_B m c t h]
  frame_out
  canon_tiles x hx
  · exact hp 768 x hx0 hx1 _ (hr _).2.2.2
  · exact hp 512 x hx0 hx1 _ (hr _).2.2.1
  · exact hp 256 x hx0 hx1 _ (hr _).2.1
  · exact hp 0 x (by omega) hx1 _ (hr _).1

/-- The reference's running sums, entry by entry. -/
theorem ref_at (b : Fin 4) (n : Fin 2048) (q : Fin 128) (r : Fin 8192) (hr : b.val * 2048 + n.val = r.val) :
    Cert.GateReferenceIdeal.Read.val_main_v10 (F := Ideal) (m ((c : Thread nD τ).loc main_arg0)) (m ((c : Thread nD τ).loc main_arg1)) (ix2 r q)
      = ∑ i ∈ Finset.range (n.val + 1), logs m c b q i := by
  have e : Cert.GateReferenceIdeal.Read.val_main_v10 (F := Ideal) (m ((c : Thread nD τ).loc main_arg0)) (m ((c : Thread nD τ).loc main_arg1)) (ix2 r q)
      = Cert.GateReferenceIdeal.Read.val_main_v9 (F := Ideal) (m ((c : Thread nD τ).loc main_arg0)) (m ((c : Thread nD τ).loc main_arg1)) (ix3 b n q) := by
    have h1 : r.val / 2048 = b.val := by omega
    have h2 : r.val % 2048 = n.val := by omega
    pointwise [Cert.GateReferenceIdeal.Read.val_main_v10]
    simp only [h1, h2]
  rw [e]
  have e0 : ∀ i, Cert.GateReferenceIdeal.Read.val_main_call2_call0_v0 (F := Ideal) i = (0 : EReal) := by
    intro i
    pointwise [Cert.GateReferenceIdeal.Read.val_main_call2_call0_v0, Cert.GateReferenceIdeal.Read.val_main_call2_call0_cst]
  unfold Cert.GateReferenceIdeal.Read.val_main_v9
  refine (window_sum _ _ _ _ _).trans ?_
  rw [e0]
  exact window_at (Cert.GateReferenceIdeal.Read.val_main_v8 (F := Ideal) (m ((c : Thread nD τ).loc main_arg0)) (m ((c : Thread nD τ).loc main_arg1)))
    Cert.GateReferenceIdeal.Gen.reduceWindows_S4x2048x128_S4x2048x128_w1s1p0_0_w2048s1p2047_0_w1s1p0_0 b n q (logs m c b q) fun i => dif_pos i.isLt

theorem final2 : (dats m 0 c).arrAt 2 (cfgs 0).N
    = Cert.GateReferenceIdeal.Read.val_main_v10 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  obtain ⟨p, q, rfl⟩ : ∃ (p : Fin 1024) (q : Fin 128), y = ix2 p q := ⟨y 0, y 1, by funext a; fin_cases a <;> rfl⟩
  have hN : t.val < 8 := t.isLt
  have e : ((cfg0.win 2).blk t).view.emb (ix2 p q) = ix2 (⟨t.val * 1024 + p.val, by omega⟩ : Fin 8192) q := by blk_ext [idx t]
  refine Eq.trans ?_ (congrArg _ e.symm)
  refine Eq.trans ?_ (ref_at m c ⟨t.val / 2, by omega⟩ ⟨t.val % 2 * 1024 + p.val, by omega⟩ q _
    (by show t.val / 2 * 2048 + (t.val % 2 * 1024 + p.val) = t.val * 1024 + p.val; omega)).symm
  by_cases h : t.val % 2 = 0
  · exact even m c t h p q _ rfl
  · exact odd m c t h p q _ rfl

end Cert.GateIdeal.Final
-- ==== Proof.Agree.lean ====
module

public import proofs.«01_k».proof.Defs
public import proofs.«01_k».proof.Proof.Gen.FoxReferenceIdeal.Read
public import proofs.«01_k».proof.Proof.Gen.OutReferenceIdeal.Read
public import proofs.«01_k».proof.Proof.Gen.NormQReferenceIdeal.Read
public import proofs.«01_k».proof.Proof.Gen.ProjReferenceIdeal.Read
public import proofs.«01_k».proof.Proof.FoxValue
public import proofs.«01_k».proof.Proof.NormQValue
public import proofs.«01_k».proof.Proof.OutValue
public import proofs.«01_k».proof.Proof.ProjValue
public import proofs.«01_k».proof.Proof.GateValue
public import proofs.«01_k».proof.Proof.Gen.GateReferenceIdeal.Run
public import Idealize.ShloMosaic.Lib.Claim

/-! Each kernel and its reference end with equal results. -/

@[expose] public section

set_option maxRecDepth 16384

noncomputable section

namespace Cert.Proof

open Idealize.ShloMosaic Idealize.ShloMosaic.TcCoe Idealize.SL.Sem

theorem agree_out : Cert.algebraic_OutIdeal_OutReferenceIdeal (hOutIdeal := Cert.OutIdeal.Gen.facts) (hOutReferenceIdeal := Cert.OutReferenceIdeal.Gen.facts) := by
  pair_intro
  · run_from Cert.OutIdeal.Value.run_blocks m g
  · run_from Cert.OutReferenceIdeal.Value.run m' g'
    obtain ⟨h0, h1, h2, h3, h4, h5, h6, h7⟩ := hagree c
    rw [Cert.OutReferenceIdeal.Read.val_main_v39_eq, h0, h1, h2, h3, h4, h5, h6, h7]
    exact (Cert.OutIdeal.Final.final m c).symm

theorem agree_fox : Cert.algebraic_FoxIdeal_FoxReferenceIdeal_pre_finite (hFoxIdeal := Cert.FoxIdeal.Gen.facts) (hFoxReferenceIdeal := Cert.FoxReferenceIdeal.Gen.facts)
    (hPre_finite := Cert.Pre_finite.Gen.facts) := by
  pair_intro
  · run_from Cert.FoxIdeal.Value.run_blocks m g
  · run_from Cert.FoxReferenceIdeal.Value.run m' g'
    · obtain ⟨h0, h1, h2, h3, -⟩ := hagree c
      rw [Cert.FoxReferenceIdeal.Read.val_main_v47_eq, h0, h1, h2, h3]
      exact (Cert.FoxIdeal.Final.final8_of m c hpre).symm
    · exact (Cert.FoxIdeal.Final.final9 m c).symm
    · exact (Cert.FoxIdeal.Final.final10 m c).symm
    · exact (Cert.FoxIdeal.Final.final11 m c).symm

theorem agree_normq : Cert.algebraic_NormQIdeal_NormQReferenceIdeal (hNormQIdeal := Cert.NormQIdeal.Gen.facts) (hNormQReferenceIdeal := Cert.NormQReferenceIdeal.Gen.facts) := by
  pair_intro
  · run_from Cert.NormQIdeal.Value.run_blocks m g
  · run_from Cert.NormQReferenceIdeal.Value.run m' g'
    · exact (Cert.NormQIdeal.Final.final3 m c).symm
    · exact (Cert.NormQIdeal.Final.final4 m c).symm

theorem agree_proj : Cert.algebraic_ProjIdeal_ProjReferenceIdeal (hProjIdeal := Cert.ProjIdeal.Gen.facts) (hProjReferenceIdeal := Cert.ProjReferenceIdeal.Gen.facts) := by
  pair_intro
  · run_from Cert.ProjIdeal.Body.results m g
  · run_from Cert.ProjReferenceIdeal.Value.run m' g'
    · exact (Cert.ProjIdeal.Final.final3 m c).symm
    · rw [Cert.ProjReferenceIdeal.Read.val_main_v16_eq]
      exact (Cert.ProjIdeal.Final.final4 m c).symm
    · rw [Cert.ProjReferenceIdeal.Read.val_main_v19_eq]
      exact (Cert.ProjIdeal.Final.final5 m c).symm

theorem agree_gate : Cert.algebraic_GateIdeal_GateReferenceIdeal (hGateIdeal := Cert.GateIdeal.Gen.facts) (hGateReferenceIdeal := Cert.GateReferenceIdeal.Gen.facts) := by
  pair_intro
  · run_from Cert.GateIdeal.Value.run_blocks m g
  · refine Idealize.ShloMosaic.θ_run_mono (Cert.GateReferenceIdeal.Value.run m' g') ?_
    intro r hr c
    refine ⟨(hr c).1.trans ((Cert.GateReferenceIdeal.Read.val_main_v10_eq _ _).trans ?_), (hr c).2⟩
    rw [(hagree c).1, (hagree c).2]
    exact (Cert.GateIdeal.Final.final2 m c).symm

end Cert.Proof
-- ==== Proof.lean ====
module

public import proofs.«01_k».proof.Defs
public import proofs.«01_k».proof.Proof.Gen.Fox.Frame
public import proofs.«01_k».proof.Proof.Gen.Out.Frame
public import proofs.«01_k».proof.Proof.Gen.NormQ.Frame
public import proofs.«01_k».proof.Proof.Gen.Proj.Frame
public import proofs.«01_k».proof.Proof.Gen.Gate.Frame
public import proofs.«01_k».proof.Proof.Agree
public import proofs.«01_k».proof.Proof.ProjFrame
public import Idealize.ShloMosaic.Adequacy
public import Idealize.ShloMosaic.Lib.Claim

@[expose] public section

noncomputable section

namespace Cert.Proof

open Idealize.ShloMosaic Idealize.SL.Sem

theorem quiet_FoxReferenceIdeal : Cert.quiescent_FoxReferenceIdeal (hFoxReferenceIdeal := Cert.FoxReferenceIdeal.Gen.facts) := by
  intro m g _
  refine θ_run_and ?_ ((θ_run _ _ _).mono (fun r _ => sem_eq_zero_of_no_sems rfl r.2) (Cert.FoxReferenceIdeal.Value.run m g))
  run_from Cert.FoxReferenceIdeal.Value.run m g

theorem quiet_OutReferenceIdeal : Cert.quiescent_OutReferenceIdeal (hOutReferenceIdeal := Cert.OutReferenceIdeal.Gen.facts) := by
  intro m g _
  refine θ_run_and ?_ ((θ_run _ _ _).mono (fun r _ => sem_eq_zero_of_no_sems rfl r.2) (Cert.OutReferenceIdeal.Value.run m g))
  run_from Cert.OutReferenceIdeal.Value.run m g

theorem quiet_NormQReferenceIdeal : Cert.quiescent_NormQReferenceIdeal (hNormQReferenceIdeal := Cert.NormQReferenceIdeal.Gen.facts) := by
  intro m g _
  refine θ_run_and ?_ ((θ_run _ _ _).mono (fun r _ => sem_eq_zero_of_no_sems rfl r.2) (Cert.NormQReferenceIdeal.Value.run m g))
  run_from Cert.NormQReferenceIdeal.Value.run m g

theorem quiet_ProjReferenceIdeal : Cert.quiescent_ProjReferenceIdeal (hProjReferenceIdeal := Cert.ProjReferenceIdeal.Gen.facts) := by
  intro m g _
  refine θ_run_and ?_ ((θ_run _ _ _).mono (fun r _ => sem_eq_zero_of_no_sems rfl r.2) (Cert.ProjReferenceIdeal.Value.run m g))
  run_from Cert.ProjReferenceIdeal.Value.run m g

theorem quiet_GateReferenceIdeal : Cert.quiescent_GateReferenceIdeal (hGateReferenceIdeal := Cert.GateReferenceIdeal.Gen.facts) := by
  intro m g _
  refine θ_run_and ?_ ((θ_run _ _ _).mono (fun r _ => sem_eq_zero_of_no_sems rfl r.2) (Cert.GateReferenceIdeal.Value.run m g))
  run_from Cert.GateReferenceIdeal.Value.run m g

/-- The two kernels' bodies are one text. -/
theorem bodies_eq : Cert.Proj.defs₀ (F := Bits) = Cert.ProjIdeal.defs₀ (F := Bits) := by
  refine congrArg Defs.onTc ?_
  funext l x
  match l, x with
  | 0, (t, s) => rfl

theorem defs_eq : Cert.Proj.defs (F := Bits) = Cert.ProjIdeal.defs (F := Bits) :=
  congrArg (Pipeline.defs Cert.ProjIdeal.pcfgs) bodies_eq

/-- The bit-exact kernel has the ideal kernel's text, so its run is that one's at bits. -/
theorem frame_Proj : Cert.quiescent_Proj (hProj := Cert.Proj.Gen.facts) := by
  intro m g _
  rw [defs_eq]
  exact (θ_run Cert.ProjIdeal.defs _ _).mono (fun _ h => h) (Cert.ProjIdeal.Body.frame (F := Bits) m g)

theorem claim : Cert.Claim :=
  ⟨Cert.Fox.Gen.facts,
   Cert.FoxIdeal.Gen.facts,
   Cert.FoxReferenceIdeal.Gen.facts,
   Cert.Out.Gen.facts,
   Cert.OutIdeal.Gen.facts,
   Cert.OutReferenceIdeal.Gen.facts,
   Cert.NormQ.Gen.facts,
   Cert.NormQIdeal.Gen.facts,
   Cert.NormQReferenceIdeal.Gen.facts,
   Cert.Proj.Gen.facts,
   Cert.ProjIdeal.Gen.facts,
   Cert.ProjReferenceIdeal.Gen.facts,
   Cert.Gate.Gen.facts,
   Cert.GateIdeal.Gen.facts,
   Cert.GateReferenceIdeal.Gen.facts,
   Cert.Pre_finite.Gen.facts,
   fun m g _ => Cert.Fox.Gen.frame m g,
   fun m g _ => Cert.FoxIdeal.Gen.frame m g,
   fun m g _ => Cert.FoxIdeal.Gen.frame m g,
   quiet_FoxReferenceIdeal,
   fun m g _ => quiet_FoxReferenceIdeal m g trivial,
   fun m g _ => Cert.Out.Gen.frame m g,
   fun m g _ => Cert.OutIdeal.Gen.frame m g,
   quiet_OutReferenceIdeal,
   fun m g _ => Cert.NormQ.Gen.frame m g,
   fun m g _ => Cert.NormQIdeal.Gen.frame m g,
   quiet_NormQReferenceIdeal,
   frame_Proj,
   fun m g _ => Cert.ProjIdeal.Body.frame m g,
   quiet_ProjReferenceIdeal,
   fun m g _ => Cert.Gate.Gen.frame m g,
   fun m g _ => Cert.GateIdeal.Gen.frame m g,
   quiet_GateReferenceIdeal,
   IdealRules.named_const.statement Cert.FoxIdeal.κ "log2e" .f32 0x3FB8AA3B#32 _ rfl,
   agree_fox,
   trivial,
   agree_out,
   IdealRules.named_const.statement Cert.NormQIdeal.κ "q_scale" .f32 0x3E0293EE#32 _ rfl,
   agree_normq,
   trivial,
   agree_proj,
   trivial,
   agree_gate⟩

end Cert.Proof

end
